-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_equal_graphs [hPre_equal_graphs : Cert.Pre_equal_graphs.Facts] (m : (ℓ : Loc Cert.KernelIdeal.nD Cert.KernelIdeal.τ Cert.KernelIdeal.sig) → Buf (Elt Ideal) ℓ) : Prop :=
  ∀ c : Dev Cert.KernelIdeal.nD,
    (Cert.Pre_equal_graphs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_equal_graphs [hPre_equal_graphs : Cert.Pre_equal_graphs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_equal_graphs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_equal_graphs [hKernelIdeal : Cert.KernelIdeal.Facts] [hPre_equal_graphs : Cert.Pre_equal_graphs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_equal_graphs m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_equal_graphs [hReferenceIdeal : Cert.ReferenceIdeal.Facts] [hPre_equal_graphs : Cert.Pre_equal_graphs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_equal_graphs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_equal_graphs [hKernelIdeal : Cert.KernelIdeal.Facts] [hReferenceIdeal : Cert.ReferenceIdeal.Facts] [hPre_equal_graphs : Cert.Pre_equal_graphs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_equal_graphs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v17)) (v2 : (c : Dev Cert.KernelIdeal.nD) → Buf (Elt Ideal) ((c.tc : Thread Cert.KernelIdeal.nD Cert.KernelIdeal.τ).loc Cert.KernelIdeal.main_v18)) (v3 : (c : Dev Cert.KernelIdeal.nD) → Buf (Elt Ideal) ((c.tc : Thread Cert.KernelIdeal.nD Cert.KernelIdeal.τ).loc Cert.KernelIdeal.main_v19)) (v4 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_v18) = v2 c
          ∧ r.2.mem ((c.tc : Thread Cert.KernelIdeal.nD Cert.KernelIdeal.τ).loc Cert.KernelIdeal.main_v19) = v3 c
          ∧ r.2.mem ((c.tc : Thread Cert.KernelIdeal.nD Cert.KernelIdeal.τ).loc Cert.KernelIdeal.main_v6_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v87) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v61) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_in_range : Cert.Pre_in_range.Facts) (hPre_equal_graphs : Cert.Pre_equal_graphs.Facts),
    quiescent_Kernel (hKernel := hKernel) (hPre_in_range := hPre_in_range)
    ∧ quiescent_KernelIdeal (hKernelIdeal := hKernelIdeal) (hPre_in_range := hPre_in_range)
    ∧ quiescent_KernelIdeal_pre_equal_graphs (hKernelIdeal := hKernelIdeal) (hPre_equal_graphs := hPre_equal_graphs)
    ∧ quiescent_ReferenceIdeal (hReferenceIdeal := hReferenceIdeal)
    ∧ quiescent_ReferenceIdeal_pre_equal_graphs (hReferenceIdeal := hReferenceIdeal) (hPre_equal_graphs := hPre_equal_graphs)
    ∧ preserves_Kernel_KernelIdeal
    ∧ algebraic_KernelIdeal_ReferenceIdeal_pre_equal_graphs (hKernelIdeal := hKernelIdeal) (hReferenceIdeal := hReferenceIdeal) (hPre_equal_graphs := hPre_equal_graphs)
-- ==== Pre_equal_graphs.lean ====
abbrev S1000x2 : Shape := ⟨2, ![1000, 2]⟩
abbrev S100000x128 : Shape := ⟨2, ![100000, 128]⟩
abbrev S100000 : Shape := ⟨1, ![100000]⟩
abbrev S100000x32 : Shape := ⟨2, ![100000, 32]⟩
abbrev S1000 : Shape := ⟨1, ![1000]⟩
abbrev S128x1 : Shape := ⟨2, ![128, 1]⟩
abbrev S128x32 : Shape := ⟨2, ![128, 32]⟩
abbrev S128x64 : Shape := ⟨2, ![128, 64]⟩
abbrev S1000x1 : Shape := ⟨2, ![1000, 1]⟩
abbrev S_ : Shape := ⟨0, ![]⟩

class Facts : Prop where
  slices_S1000x2_S1000x1_0_0 : S1000x2.Slices ![0, 0] S1000x1
  shapeCasts_S1000x1_S1000 : S1000x1.ShapeCasts S1000
  bcast_S_S1000 : S_.BroadcastsInDim S1000 (![] : Fin 0 → Fin S1000.rank)
  slices_S1000x2_S1000x1_0_1 : S1000x2.Slices ![0, 1] S1000x1
  reducesTo_S1000_S_d0 : S1000.ReducesTo [0] S_
  h_S_ : 0 < S_.numel
  bcast_S_S100000 : S_.BroadcastsInDim S100000 (![] : Fin 0 → Fin S100000.rank)
  reducesTo_S100000_S_d0 : S100000.ReducesTo [0] S_
  bcast_S_S100000x128 : S_.BroadcastsInDim S100000x128 (![] : Fin 0 → Fin S100000x128.rank)
  reducesTo_S100000x128_S_d0_1 : S100000x128.ReducesTo [0, 1] S_
  bcast_S_S128x64 : S_.BroadcastsInDim S128x64 (![] : Fin 0 → Fin S128x64.rank)
  reducesTo_S128x64_S_d0_1 : S128x64.ReducesTo [0, 1] S_

variable [Facts]

def fn_where {F : FTy → Type} [FloatOps F] (arg0 : IVec S100000 1) (arg1 : IVec S100000 32) (arg2 : IVec S100000 32) : IVec S100000 32 :=
  let v0 : IVec S100000 32 := select arg0 arg1 arg2
  v0

def fn_floor_divide {F : FTy → Type} [FloatOps F] (arg0 : IVec S100000 32) (arg1 : IVec S_ 32) : IVec S100000 32 :=
  let v0 : IVec S_ 32 := id arg1
  let v1 : IVec S100000 32 := broadcastInDim S100000 ![] bcast_S_S100000 v0
  let v2 : IVec S100000 32 := Host.divsi arg0 v1
  let v3 : IVec S100000 32 := signi arg0
  let v4 : IVec S_ 32 := signi v0
  let v5 : IVec S100000 32 := broadcastInDim S100000 ![] bcast_S_S100000 v4
  let v6 : IVec S100000 1 := cmpi .ne v3 v5
  let v7 : IVec S100000 32 := broadcastInDim S100000 ![] bcast_S_S100000 v0
  let v8 : IVec S100000 32 := Host.remsi arg0 v7
  let c : IVec S_ 32 := constantI S_ 32 0#32
  let v9 : IVec S100000 32 := broadcastInDim S100000 ![] bcast_S_S100000 c
  let v10 : IVec S100000 1 := cmpi .ne v8 v9
  let v11 : IVec S100000 1 := andi v6 v10
  let c_0 : IVec S_ 32 := constantI S_ 32 1#32
  let v12 : IVec S100000 32 := broadcastInDim S100000 ![] bcast_S_S100000 c_0
  let v13 : IVec S100000 32 := subi v2 v12
  let v14 : IVec S100000 32 := fn_where (F := F) v11 v13 v2
  v14

def fn_part1 {F : FTy → Type} [FloatOps F] (main_arg1 : FVec F S100000x128 .f32) (main_arg2 : IVec S100000 32) (main_arg8 : FVec F S128x64 .f32) (main_v18 : IVec S1000 1) (main_c_3 : IVec S_ 1) : IVec S_ 1 :=
  let main_v19 : IVec S_ 1 := (fun x v => Host.reduce IntOp.andi x v reducesTo_S1000_S_d0 h_S_) main_v18 main_c_3
  let main_v20 : IVec S100000 32 := iotaInDim S100000 32 0
  let main_c_4 : IVec S_ 32 := constantI S_ 32 100#32
  let main_v21 : IVec S100000 32 := fn_floor_divide (F := F) main_v20 main_c_4
  let main_v22 : IVec S100000 1 := cmpi .eq main_arg2 main_v21
  let main_c_5 : IVec S_ 1 := constantI S_ 1 1#1
  let main_v23 : IVec S_ 1 := (fun x v => Host.reduce IntOp.andi x v reducesTo_S100000_S_d0 h_S_) main_v22 main_c_5
  let main_v24 : IVec S_ 1 := andi main_v19 main_v23
  let main_v25 : FVec F S100000x128 .f32 := Host.absf main_arg1
  let main_cst : FVec F S_ .f32 := constant S_ .f32 0x7F800000#32
  let main_v26 : FVec F S100000x128 .f32 := broadcastInDim S100000x128 ![] bcast_S_S100000x128 main_cst
  let main_v27 : IVec S100000x128 1 := cmpf .olt main_v25 main_v26
  let main_c_6 : IVec S_ 1 := constantI S_ 1 1#1
  let main_v28 : IVec S_ 1 := (fun x v => Host.reduce IntOp.andi x v reducesTo_S100000x128_S_d0_1 h_S_) main_v27 main_c_6
  let main_v29 : IVec S_ 1 := andi main_v24 main_v28
  let main_v30 : FVec F S128x64 .f32 := Host.absf main_arg8
  let main_cst_7 : FVec F S_ .f32 := constant S_ .f32 0x7F800000#32
  let main_v31 : FVec F S128x64 .f32 := broadcastInDim S128x64 ![] bcast_S_S128x64 main_cst_7
  let main_v32 : IVec S128x64 1 := cmpf .olt main_v30 main_v31
  let main_c_8 : IVec S_ 1 := constantI S_ 1 1#1
  let main_v33 : IVec S_ 1 := (fun x v => Host.reduce IntOp.andi x v reducesTo_S128x64_S_d0_1 h_S_) main_v32 main_c_8
  let main_v34 : IVec S_ 1 := andi main_v29 main_v33
  main_v34

def fn {F : FTy → Type} [FloatOps F] (main_arg0 : IVec S1000x2 32) (main_arg1 : FVec F S100000x128 .f32) (main_arg2 : IVec S100000 32) (main_arg3 : IVec S100000x32 1) (main_arg4 : IVec S100000x32 1) (main_arg5 : IVec S1000 32) (main_arg6 : FVec F S128x1 .f32) (main_arg7 : FVec F S128x32 .f32) (main_arg8 : FVec F S128x64 .f32) : IVec S_ 1 :=
  let main_v0 : IVec S1000x1 32 := (extractStridedSlice S1000x1 ![0, 0] · slices_S1000x2_S1000x1_0_0) main_arg0
  let main_v1 : IVec S1000 32 := shapeCast S1000 main_v0 shapeCasts_S1000x1_S1000
  let main_c : IVec S_ 32 := constantI S_ 32 0#32
  let main_v2 : IVec S1000 32 := broadcastInDim S1000 ![] bcast_S_S1000 main_c
  let main_v3 : IVec S1000 1 := cmpi .sge main_v1 main_v2
  let main_v4 : IVec S1000x1 32 := (extractStridedSlice S1000x1 ![0, 0] · slices_S1000x2_S1000x1_0_0) main_arg0
  let main_v5 : IVec S1000 32 := shapeCast S1000 main_v4 shapeCasts_S1000x1_S1000
  let main_c_0 : IVec S_ 32 := constantI S_ 32 100000#32
  let main_v6 : IVec S1000 32 := broadcastInDim S1000 ![] bcast_S_S1000 main_c_0
  let main_v7 : IVec S1000 1 := cmpi .slt main_v5 main_v6
  let main_v8 : IVec S1000 1 := andi main_v3 main_v7
  let main_v9 : IVec S1000x1 32 := (extractStridedSlice S1000x1 ![0, 1] · slices_S1000x2_S1000x1_0_1) main_arg0
  let main_v10 : IVec S1000 32 := shapeCast S1000 main_v9 shapeCasts_S1000x1_S1000
  let main_c_1 : IVec S_ 32 := constantI S_ 32 0#32
  let main_v11 : IVec S1000 32 := broadcastInDim S1000 ![] bcast_S_S1000 main_c_1
  let main_v12 : IVec S1000 1 := cmpi .sge main_v10 main_v11
  let main_v13 : IVec S1000 1 := andi main_v8 main_v12
  let main_v14 : IVec S1000x1 32 := (extractStridedSlice S1000x1 ![0, 1] · slices_S1000x2_S1000x1_0_1) main_arg0
  let main_v15 : IVec S1000 32 := shapeCast S1000 main_v14 shapeCasts_S1000x1_S1000
  let main_c_2 : IVec S_ 32 := constantI S_ 32 32#32
  let main_v16 : IVec S1000 32 := broadcastInDim S1000 ![] bcast_S_S1000 main_c_2
  let main_v17 : IVec S1000 1 := cmpi .slt main_v15 main_v16
  let main_v18 : IVec S1000 1 := andi main_v13 main_v17
  let main_c_3 : IVec S_ 1 := constantI S_ 1 1#1
  fn_part1 (F := F) main_arg1 main_arg2 main_arg8 main_v18 main_c_3
-- ==== Pre_in_range.lean ====
abbrev S1000x2 : Shape := ⟨2, ![1000, 2]⟩
abbrev S100000x128 : Shape := ⟨2, ![100000, 128]⟩
abbrev S100000 : Shape := ⟨1, ![100000]⟩
abbrev S100000x32 : Shape := ⟨2, ![100000, 32]⟩
abbrev S1000 : Shape := ⟨1, ![1000]⟩
abbrev S128x1 : Shape := ⟨2, ![128, 1]⟩
abbrev S128x32 : Shape := ⟨2, ![128, 32]⟩
abbrev S128x64 : Shape := ⟨2, ![128, 64]⟩
abbrev S1000x1 : Shape := ⟨2, ![1000, 1]⟩
abbrev S_ : Shape := ⟨0, ![]⟩

class Facts : Prop where
  slices_S1000x2_S1000x1_0_0 : S1000x2.Slices ![0, 0] S1000x1
  shapeCasts_S1000x1_S1000 : S1000x1.ShapeCasts S1000
  bcast_S_S1000 : S_.BroadcastsInDim S1000 (![] : Fin 0 → Fin S1000.rank)
  slices_S1000x2_S1000x1_0_1 : S1000x2.Slices ![0, 1] S1000x1
  reducesTo_S1000_S_d0 : S1000.ReducesTo [0] S_
  h_S_ : 0 < S_.numel

variable [Facts]

def fn_part1 {F : FTy → Type} [FloatOps F] (main_v18 : IVec S1000 1) (main_c_3 : IVec S_ 1) : IVec S_ 1 :=
  let main_v19 : IVec S_ 1 := (fun x v => Host.reduce IntOp.andi x v reducesTo_S1000_S_d0 h_S_) main_v18 main_c_3
  main_v19

def fn {F : FTy → Type} [FloatOps F] (main_arg0 : IVec S1000x2 32) (main_arg1 : FVec F S100000x128 .f32) (main_arg2 : IVec S100000 32) (main_arg3 : IVec S100000x32 1) (main_arg4 : IVec S100000x32 1) (main_arg5 : IVec S1000 32) (main_arg6 : FVec F S128x1 .f32) (main_arg7 : FVec F S128x32 .f32) (main_arg8 : FVec F S128x64 .f32) : IVec S_ 1 :=
  let main_v0 : IVec S1000x1 32 := (extractStridedSlice S1000x1 ![0, 0] · slices_S1000x2_S1000x1_0_0) main_arg0
  let main_v1 : IVec S1000 32 := shapeCast S1000 main_v0 shapeCasts_S1000x1_S1000
  let main_c : IVec S_ 32 := constantI S_ 32 0#32
  let main_v2 : IVec S1000 32 := broadcastInDim S1000 ![] bcast_S_S1000 main_c
  let main_v3 : IVec S1000 1 := cmpi .sge main_v1 main_v2
  let main_v4 : IVec S1000x1 32 := (extractStridedSlice S1000x1 ![0, 0] · slices_S1000x2_S1000x1_0_0) main_arg0
  let main_v5 : IVec S1000 32 := shapeCast S1000 main_v4 shapeCasts_S1000x1_S1000
  let main_c_0 : IVec S_ 32 := constantI S_ 32 100000#32
  let main_v6 : IVec S1000 32 := broadcastInDim S1000 ![] bcast_S_S1000 main_c_0
  let main_v7 : IVec S1000 1 := cmpi .slt main_v5 main_v6
  let main_v8 : IVec S1000 1 := andi main_v3 main_v7
  let main_v9 : IVec S1000x1 32 := (extractStridedSlice S1000x1 ![0, 1] · slices_S1000x2_S1000x1_0_1) main_arg0
  let main_v10 : IVec S1000 32 := shapeCast S1000 main_v9 shapeCasts_S1000x1_S1000
  let main_c_1 : IVec S_ 32 := constantI S_ 32 0#32
  let main_v11 : IVec S1000 32 := broadcastInDim S1000 ![] bcast_S_S1000 main_c_1
  let main_v12 : IVec S1000 1 := cmpi .sge main_v10 main_v11
  let main_v13 : IVec S1000 1 := andi main_v8 main_v12
  let main_v14 : IVec S1000x1 32 := (extractStridedSlice S1000x1 ![0, 1] · slices_S1000x2_S1000x1_0_1) main_arg0
  let main_v15 : IVec S1000 32 := shapeCast S1000 main_v14 shapeCasts_S1000x1_S1000
  let main_c_2 : IVec S_ 32 := constantI S_ 32 32#32
  let main_v16 : IVec S1000 32 := broadcastInDim S1000 ![] bcast_S_S1000 main_c_2
  let main_v17 : IVec S1000 1 := cmpi .slt main_v15 main_v16
  let main_v18 : IVec S1000 1 := andi main_v13 main_v17
  let main_c_3 : IVec S_ 1 := constantI S_ 1 1#1
  fn_part1 (F := F) main_v18 main_c_3
-- ==== Kernel.lean ====
abbrev S1000x2 : Shape := ⟨2, ![1000, 2]⟩
abbrev S100000x128 : Shape := ⟨2, ![100000, 128]⟩
abbrev S100000 : Shape := ⟨1, ![100000]⟩
abbrev S100000x32 : Shape := ⟨2, ![100000, 32]⟩
abbrev S1000 : Shape := ⟨1, ![1000]⟩
abbrev S128x1 : Shape := ⟨2, ![128, 1]⟩
abbrev S128x32 : Shape := ⟨2, ![128, 32]⟩
abbrev S128x64 : Shape := ⟨2, ![128, 64]⟩
abbrev S128x2x32 : Shape := ⟨3, ![128, 2, 32]⟩
abbrev S_ : Shape := ⟨0, ![]⟩
abbrev S1000x100 : Shape := ⟨2, ![1000, 100]⟩
abbrev S1000x1 : Shape := ⟨2, ![1000, 1]⟩
abbrev S4000x128 : Shape := ⟨2, ![4000, 128]⟩
abbrev S4000x32 : Shape := ⟨2, ![4000, 32]⟩
abbrev S40x100 : Shape := ⟨2, ![40, 100]⟩
abbrev S40x1 : Shape := ⟨2, ![40, 1]⟩
abbrev S4000x1 : Shape := ⟨2, ![4000, 1]⟩
abbrev S4000 : Shape := ⟨1, ![4000]⟩
abbrev S40 : Shape := ⟨1, ![40]⟩
abbrev S1024 : Shape := ⟨1, ![1024]⟩
abbrev S3200000 : Shape := ⟨1, ![3200000]⟩
abbrev S32 : Shape := ⟨1, ![32]⟩
abbrev S16 : Shape := ⟨1, ![16]⟩

abbrev nBuf : Table → Nat
  | .hbm => 40
  | .local .tc .vmem => 21
  | .local .scVector .vmem => 6
  | _ => 0

abbrev bufTy : (tb : Table) → Fin (nBuf tb) → BufTy
  | .hbm, ⟨0, _⟩ => ⟨S1000x2, .i32⟩
  | .hbm, ⟨1, _⟩ => ⟨S100000x128, .f32⟩
  | .hbm, ⟨2, _⟩ => ⟨S100000, .i32⟩
  | .hbm, ⟨3, _⟩ => ⟨S100000x32, .i1⟩
  | .hbm, ⟨4, _⟩ => ⟨S100000x32, .i1⟩
  | .hbm, ⟨5, _⟩ => ⟨S1000, .i32⟩
  | .hbm, ⟨6, _⟩ => ⟨S128x1, .f32⟩
  | .hbm, ⟨7, _⟩ => ⟨S128x32, .f32⟩
  | .hbm, ⟨8, _⟩ => ⟨S128x64, .f32⟩
  | .hbm, ⟨9, _⟩ => ⟨S128x2x32, .f32⟩
  | .hbm, ⟨10, _⟩ => ⟨S_, .f32⟩
  | .hbm, ⟨11, _⟩ => ⟨S128x32, .f32⟩
  | .hbm, ⟨12, _⟩ => ⟨S_, .f32⟩
  | .hbm, ⟨13, _⟩ => ⟨S128x32, .f32⟩
  | .hbm, ⟨14, _⟩ => ⟨S128x32, .f32⟩
  | .hbm, ⟨15, _⟩ => ⟨S100000x32, .i32⟩
  | .hbm, ⟨16, _⟩ => ⟨S100000x32, .i32⟩
  | .hbm, ⟨17, _⟩ => ⟨S1000x100, .f32⟩
  | .hbm, ⟨18, _⟩ => ⟨S100000x32, .f32⟩
  | .hbm, ⟨19, _⟩ => ⟨S1000x100, .f32⟩
  | .hbm, ⟨20, _⟩ => ⟨S100000x32, .f32⟩
  | .hbm, ⟨21, _⟩ => ⟨S1000x1, .f32⟩
  | .hbm, ⟨22, _⟩ => ⟨S1000x1, .f32⟩
  | .hbm, ⟨23, _⟩ => ⟨S1000x1, .i32⟩
  | .hbm, ⟨24, _⟩ => ⟨S1000, .i32⟩
  | .hbm, ⟨25, _⟩ => ⟨S_, .i32⟩
  | .hbm, ⟨26, _⟩ => ⟨S_, .i32⟩
  | .hbm, ⟨27, _⟩ => ⟨S1024, .i32⟩
  | .hbm, ⟨28, _⟩ => ⟨S1000x1, .i32⟩
  | .hbm, ⟨29, _⟩ => ⟨S1000, .i32⟩
  | .hbm, ⟨30, _⟩ => ⟨S_, .i32⟩
  | .hbm, ⟨31, _⟩ => ⟨S_, .i32⟩
  | .hbm, ⟨32, _⟩ => ⟨S1024, .i32⟩
  | .hbm, ⟨33, _⟩ => ⟨S100000, .f32⟩
  | .hbm, ⟨34, _⟩ => ⟨S3200000, .f32⟩
  | .hbm, ⟨35, _⟩ => ⟨S1024, .f32⟩
  | .hbm, ⟨36, _⟩ => ⟨S1000, .f32⟩
  | .hbm, ⟨37, _⟩ => ⟨S1000, .f32⟩
  | .hbm, ⟨38, _⟩ => ⟨S1000, .f32⟩
  | .hbm, ⟨39, _⟩ => ⟨S100000, .f32⟩
  | .local .tc .vmem, ⟨0, _⟩ => ⟨S4000x128, .f32⟩
  | .local .tc .vmem, ⟨1, _⟩ => ⟨S4000x128, .f32⟩
  | .local .tc .vmem, ⟨2, _⟩ => ⟨S4000x32, .i32⟩
  | .local .tc .vmem, ⟨3, _⟩ => ⟨S4000x32, .i32⟩
  | .local .tc .vmem, ⟨4, _⟩ => ⟨S4000x32, .i32⟩
  | .local .tc .vmem, ⟨5, _⟩ => ⟨S4000x32, .i32⟩
  | .local .tc .vmem, ⟨6, _⟩ => ⟨S128x1, .f32⟩
  | .local .tc .vmem, ⟨7, _⟩ => ⟨S128x32, .f32⟩
  | .local .tc .vmem, ⟨8, _⟩ => ⟨S128x32, .f32⟩
  | .local .tc .vmem, ⟨9, _⟩ => ⟨S40x100, .f32⟩
  | .local .tc .vmem, ⟨10, _⟩ => ⟨S40x100, .f32⟩
  | .local .tc .vmem, ⟨11, _⟩ => ⟨S4000x32, .f32⟩
  | .local .tc .vmem, ⟨12, _⟩ => ⟨S4000x32, .f32⟩
  | .local .tc .vmem, ⟨13, _⟩ => ⟨S40x100, .f32⟩
  | .local .tc .vmem, ⟨14, _⟩ => ⟨S40x100, .f32⟩
  | .local .tc .vmem, ⟨15, _⟩ => ⟨S4000x32, .f32⟩
  | .local .tc .vmem, ⟨16, _⟩ => ⟨S4000x32, .f32⟩
  | .local .tc .vmem, ⟨17, _⟩ => ⟨S40x1, .f32⟩
  | .local .tc .vmem, ⟨18, _⟩ => ⟨S40x1, .f32⟩
  | .local .tc .vmem, ⟨19, _⟩ => ⟨S40x1, .f32⟩
  | .local .tc .vmem, ⟨20, _⟩ => ⟨S40x1, .f32⟩
  | .local .scVector .vmem, ⟨0, _⟩ => ⟨S32, .i32⟩
  | .local .scVector .vmem, ⟨1, _⟩ => ⟨S32, .i32⟩
  | .local .scVector .vmem, ⟨2, _⟩ => ⟨S32, .i32⟩
  | .local .scVector .vmem, ⟨3, _⟩ => ⟨S32, .f32⟩
  | .local .scVector .vmem, ⟨4, _⟩ => ⟨S32, .f32⟩
  | .local .scVector .vmem, ⟨5, _⟩ => ⟨S32, .f32⟩
  | _, _ => ⟨S1000x2, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => false
  | ⟨22, _⟩ => false
  | ⟨23, _⟩ => false
  | ⟨24, _⟩ => false
  | _ => false

abbrev sig : RefSig :=
  ofTables nBuf rfl bufTy 4 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev main_v6_3 : Ref sig .tc := ⟨.hbm, 20, rfl⟩
abbrev main_v6_4 : Ref sig .tc := ⟨.hbm, 21, rfl⟩
abbrev main_v6_5 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_call0_v0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_c_1 : Ref sig .tc := ⟨.hbm, 30, rfl⟩
abbrev main_call1_v0 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v9_scv : Ref sig .scVector := ⟨.hbm, 27, rfl⟩
abbrev main_v12_scv : Ref sig .scVector := ⟨.hbm, 32, rfl⟩
abbrev main_v13_scv : Ref sig .scVector := ⟨.hbm, 33, rfl⟩
abbrev main_v14_scv : Ref sig .scVector := ⟨.hbm, 34, rfl⟩
abbrev main_v15_scv : Ref sig .scVector := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x32 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x32 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S40x100 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4000x32 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S40x100 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4000x32 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S40x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S40x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  ![v2.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000x2 : Shape := ⟨2, ![1000, 2]⟩
abbrev S100000x128 : Shape := ⟨2, ![100000, 128]⟩
abbrev S100000 : Shape := ⟨1, ![100000]⟩
abbrev S100000x32 : Shape := ⟨2, ![100000, 32]⟩
abbrev S1000 : Shape := ⟨1, ![1000]⟩
abbrev S128x1 : Shape := ⟨2, ![128, 1]⟩
abbrev S128x32 : Shape := ⟨2, ![128, 32]⟩
abbrev S128x64 : Shape := ⟨2, ![128, 64]⟩
abbrev S100000x1 : Shape := ⟨2, ![100000, 1]⟩
abbrev S_ : Shape := ⟨0, ![]⟩
abbrev S1x100000 : Shape := ⟨2, ![1, 100000]⟩
abbrev S1000x1 : Shape := ⟨2, ![1000, 1]⟩
abbrev S1000x100000 : Shape := ⟨2, ![1000, 100000]⟩
abbrev S1000x32 : Shape := ⟨2, ![1000, 32]⟩
abbrev S1000x1x1 : Shape := ⟨3, ![1000, 1, 1]⟩
abbrev S1 : Shape := ⟨1, ![1]⟩
abbrev S1x1x1 : Shape := ⟨3, ![1, 1, 1]⟩
abbrev S100000x64 : Shape := ⟨2, ![100000, 64]⟩
abbrev S100000x2x32 : Shape := ⟨3, ![100000, 2, 32]⟩

abbrev nBuf : Space → Nat
  | .hbm => 167
  | .vmem => 0
  | .smem => 0
  | _ => 0

abbrev hbmTy0_0 (i : Nat) : BufTy := match i % 128 with
  | 0 => ⟨S1000x2, .i32⟩
  | 1 => ⟨S100000x128, .f32⟩
  | 2 => ⟨S100000, .i32⟩
  | 3 => ⟨S100000x32, .i1⟩
  | 4 => ⟨S100000x32, .i1⟩
  | 5 => ⟨S1000, .i32⟩
  | 6 => ⟨S128x1, .f32⟩
  | 7 => ⟨S128x32, .f32⟩
  | 8 => ⟨S128x64, .f32⟩
  | 9 => ⟨S100000x1, .f32⟩
  | 10 => ⟨S100000, .f32⟩
  | 11 => ⟨S100000x32, .f32⟩
  | 12 => ⟨S100000x32, .i1⟩
  | 13 => ⟨S_, .i1⟩
  | 14 => ⟨S100000, .i1⟩
  | 15 => ⟨S_, .f32⟩
  | 16 => ⟨S_, .f32⟩
  | 17 => ⟨S100000, .f32⟩
  | 18 => ⟨S100000, .f32⟩
  | 19 => ⟨S1x100000, .i32⟩
  | 20 => ⟨S1000, .i32⟩
  | 21 => ⟨S1000x1, .i32⟩
  | 22 => ⟨S1000x100000, .i32⟩
  | 23 => ⟨S1000x100000, .i32⟩
  | 24 => ⟨S1000x100000, .i1⟩
  | 25 => ⟨S1x100000, .f32⟩
  | 26 => ⟨S_, .f32⟩
  | 27 => ⟨S_, .f32⟩
  | 28 => ⟨S1000x100000, .f32⟩
  | 29 => ⟨S1000x100000, .f32⟩
  | 30 => ⟨S1000x100000, .f32⟩
  | 31 => ⟨S_, .f32⟩
  | 32 => ⟨S1000, .f32⟩
  | 33 => ⟨S_, .i32⟩
  | 34 => ⟨S100000, .i32⟩
  | 35 => ⟨S100000, .i1⟩
  | 36 => ⟨S_, .i32⟩
  | 37 => ⟨S100000, .i32⟩
  | 38 => ⟨S100000, .i32⟩
  | 39 => ⟨S100000, .i32⟩
  | 40 => ⟨S100000x1, .i32⟩
  | 41 => ⟨S100000, .f32⟩
  | 42 => ⟨S100000, .f32⟩
  | 43 => ⟨S100000, .f32⟩
  | 44 => ⟨S_, .f32⟩
  | 45 => ⟨S1000, .f32⟩
  | 46 => ⟨S100000x1, .i32⟩
  | 47 => ⟨S1000, .f32⟩
  | 48 => ⟨S1000, .f32⟩
  | 49 => ⟨S_, .i32⟩
  | 50 => ⟨S100000, .i32⟩
  | 51 => ⟨S100000, .i1⟩
  | 52 => ⟨S_, .i32⟩
  | 53 => ⟨S100000, .i32⟩
  | 54 => ⟨S100000, .i32⟩
  | 55 => ⟨S100000, .i32⟩
  | 56 => ⟨S100000x1, .i32⟩
  | 57 => ⟨S100000, .f32⟩
  | 58 => ⟨S100000, .f32⟩
  | 59 => ⟨S_, .f32⟩
  | 60 => ⟨S_, .f32⟩
  | 61 => ⟨S100000x32, .f32⟩
  | 62 => ⟨S100000x32, .f32⟩
  | 63 => ⟨S_, .f32⟩
  | 64 => ⟨S100000, .f32⟩
  | 65 => ⟨S_, .f32⟩
  | 66 => ⟨S100000, .f32⟩
  | 67 => ⟨S100000, .f32⟩
  | 68 => ⟨S100000x1, .f32⟩
  | 69 => ⟨S100000x32, .f32⟩
  | 70 => ⟨S100000x32, .f32⟩
  | 71 => ⟨S100000x32, .f32⟩
  | 72 => ⟨S_, .f32⟩
  | 73 => ⟨S100000, .f32⟩
  | 74 => ⟨S100000x1, .f32⟩
  | 75 => ⟨S100000x1, .f32⟩
  | 76 => ⟨S100000x32, .f32⟩
  | 77 => ⟨S100000x32, .f32⟩
  | 78 => ⟨S1000x1, .i32⟩
  | 79 => ⟨S1000, .i32⟩
  | 80 => ⟨S1000x1, .i32⟩
  | 81 => ⟨S1000, .i32⟩
  | 82 => ⟨S_, .i32⟩
  | 83 => ⟨S1000, .i32⟩
  | 84 => ⟨S1000, .i1⟩
  | 85 => ⟨S_, .i32⟩
  | 86 => ⟨S1000, .i32⟩
  | 87 => ⟨S1000, .i32⟩
  | 88 => ⟨S1000, .i32⟩
  | 89 => ⟨S1000x1, .i32⟩
  | 90 => ⟨S1000, .f32⟩
  | 91 => ⟨S_, .i32⟩
  | 92 => ⟨S1000, .i32⟩
  | 93 => ⟨S1000, .i1⟩
  | 94 => ⟨S_, .i32⟩
  | 95 => ⟨S1000, .i32⟩
  | 96 => ⟨S1000, .i32⟩
  | 97 => ⟨S1000, .i32⟩
  | 98 => ⟨S1000x1, .i32⟩
  | 99 => ⟨S1000x32, .f32⟩
  | 100 => ⟨S1000x1, .i32⟩
  | 101 => ⟨S_, .i32⟩
  | 102 => ⟨S1000x1, .i32⟩
  | 103 => ⟨S1000x1, .i1⟩
  | 104 => ⟨S_, .i32⟩
  | 105 => ⟨S1000x1, .i32⟩
  | 106 => ⟨S1000x1, .i32⟩
  | 107 => ⟨S1000x1, .i32⟩
  | 108 => ⟨S1000x1x1, .i32⟩
  | 109 => ⟨S1, .i32⟩
  | 110 => ⟨S_, .i32⟩
  | 111 => ⟨S1000x1x1, .i32⟩
  | 112 => ⟨S1000x1x1, .i1⟩
  | 113 => ⟨S1x1x1, .i32⟩
  | 114 => ⟨S1000x1x1, .i32⟩
  | 115 => ⟨S1000x1x1, .i1⟩
  | 116 => ⟨S1000x1x1, .i1⟩
  | 117 => ⟨S_, .i1⟩
  | 118 => ⟨S1000x1, .i1⟩
  | 119 => ⟨S1000x1, .f32⟩
  | 120 => ⟨S_, .f32⟩
  | 121 => ⟨S1000x1, .f32⟩
  | 122 => ⟨S1000x1, .f32⟩
  | 123 => ⟨S1000, .f32⟩
  | 124 => ⟨S1000, .f32⟩
  | 125 => ⟨S100000, .f32⟩
  | 126 => ⟨S100000x32, .f32⟩
  | 127 => ⟨S_, .f32⟩
  | _ => ⟨S1000x2, .i32⟩

abbrev hbmTy0_1 (i : Nat) : BufTy := match i % 128 with
  | 0 => ⟨S100000x32, .f32⟩
  | 1 => ⟨S100000x32, .i1⟩
  | 2 => ⟨S100000x32, .f32⟩
  | 3 => ⟨S_, .f32⟩
  | 4 => ⟨S_, .f32⟩
  | 5 => ⟨S100000x32, .f32⟩
  | 6 => ⟨S100000x32, .f32⟩
  | 7 => ⟨S_, .f32⟩
  | 8 => ⟨S100000, .f32⟩
  | 9 => ⟨S100000, .f32⟩
  | 10 => ⟨S100000, .f32⟩
  | 11 => ⟨S_, .f32⟩
  | 12 => ⟨S100000, .f32⟩
  | 13 => ⟨S100000, .i1⟩
  | 14 => ⟨S100000, .f32⟩
  | 15 => ⟨S_, .f32⟩
  | 16 => ⟨S_, .f32⟩
  | 17 => ⟨S100000, .f32⟩
  | 18 => ⟨S100000, .f32⟩
  | 19 => ⟨S100000, .f32⟩
  | 20 => ⟨S_, .f32⟩
  | 21 => ⟨S1000, .f32⟩
  | 22 => ⟨S100000x1, .i32⟩
  | 23 => ⟨S1000, .f32⟩
  | 24 => ⟨S100000x64, .f32⟩
  | 25 => ⟨S100000x2x32, .f32⟩
  | 26 => ⟨S_, .f32⟩
  | 27 => ⟨S100000x32, .f32⟩
  | 28 => ⟨S_, .f32⟩
  | 29 => ⟨S100000x32, .f32⟩
  | 30 => ⟨S100000x32, .f32⟩
  | 31 => ⟨S100000x32, .f32⟩
  | 32 => ⟨S_, .f32⟩
  | 33 => ⟨S100000, .f32⟩
  | 34 => ⟨S100000, .f32⟩
  | 35 => ⟨S_, .f32⟩
  | 36 => ⟨S1000, .f32⟩
  | 37 => ⟨S100000x1, .i32⟩
  | 38 => ⟨S1000, .f32⟩
  | _ => ⟨S1000x2, .i32⟩

abbrev hbmTy (i : Nat) : BufTy := match i / 128 with
  | 0 => hbmTy0_0 i
  | 1 => hbmTy0_1 i
  | _ => ⟨S1000x2, .i32⟩

abbrev bufTy : (tb : Table) → Fin (tcTables nBuf tb) → BufTy
  | .hbm, ⟨i, _⟩ => hbmTy i
  | _, _ => ⟨S1000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_cst : Ref sig .tc := ⟨.hbm, 15, rfl⟩
abbrev main_call0_v0 : Ref sig .tc := ⟨.hbm, 16, rfl⟩
abbrev main_call0_v1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_0 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_cst_4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_7 : Ref sig .tc := ⟨.hbm, 59, rfl⟩
abbrev main_call2_v0 : Ref sig .tc := ⟨.hbm, 60, rfl⟩
abbrev main_call2_v1 : Ref sig .tc := ⟨.hbm, 61, rfl⟩
abbrev main_v36 : Ref sig .tc := ⟨.hbm, 62, rfl⟩
abbrev main_call3_cst : Ref sig .tc := ⟨.hbm, 63, rfl⟩
abbrev main_call3_v0 : Ref sig .tc := ⟨.hbm, 64, rfl⟩
abbrev main_call3_cst_0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_cst_1 : Ref sig .tc := ⟨.hbm, 72, rfl⟩
abbrev main_call3_v7 : Ref sig .tc := ⟨.hbm, 73, rfl⟩
abbrev main_call3_v8 : Ref sig .tc := ⟨.hbm, 74, rfl⟩
abbrev main_call3_v9 : Ref sig .tc := ⟨.hbm, 75, rfl⟩
abbrev main_call3_v10 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_c_8 : Ref sig .tc := ⟨.hbm, 82, rfl⟩
abbrev main_v42 : Ref sig .tc := ⟨.hbm, 83, rfl⟩
abbrev main_v43 : Ref sig .tc := ⟨.hbm, 84, rfl⟩
abbrev main_c_9 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_c_10 : Ref sig .tc := ⟨.hbm, 91, rfl⟩
abbrev main_v49 : Ref sig .tc := ⟨.hbm, 92, rfl⟩
abbrev main_v50 : Ref sig .tc := ⟨.hbm, 93, rfl⟩
abbrev main_c_11 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_call4_c : Ref sig .tc := ⟨.hbm, 101, rfl⟩
abbrev main_call4_v0 : Ref sig .tc := ⟨.hbm, 102, rfl⟩
abbrev main_call4_v1 : Ref sig .tc := ⟨.hbm, 103, rfl⟩
abbrev main_call4_c_0 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_call4_v5 : Ref sig .tc := ⟨.hbm, 108, rfl⟩
abbrev main_call4_c_1 : Ref sig .tc := ⟨.hbm, 109, rfl⟩
abbrev main_call4_c_2 : Ref sig .tc := ⟨.hbm, 110, rfl⟩
abbrev main_call4_v6 : Ref sig .tc := ⟨.hbm, 111, rfl⟩
abbrev main_call4_v7 : Ref sig .tc := ⟨.hbm, 112, rfl⟩
abbrev main_call4_v8 : Ref sig .tc := ⟨.hbm, 113, rfl⟩
abbrev main_call4_v9 : Ref sig .tc := ⟨.hbm, 114, rfl⟩
abbrev main_call4_v10 : Ref sig .tc := ⟨.hbm, 115, rfl⟩
abbrev main_call4_v11 : Ref sig .tc := ⟨.hbm, 116, rfl⟩
abbrev main_call4_c_3 : Ref sig .tc := ⟨.hbm, 117, rfl⟩
abbrev main_call4_v12 : Ref sig .tc := ⟨.hbm, 118, rfl⟩
abbrev main_call4_v13 : Ref sig .tc := ⟨.hbm, 119, rfl⟩
abbrev main_call4_cst : Ref sig .tc := ⟨.hbm, 120, rfl⟩
abbrev main_call4_v14 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_12 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_cst_13 : Ref sig .tc := ⟨.hbm, 131, rfl⟩
abbrev main_call5_v0 : Ref sig .tc := ⟨.hbm, 132, rfl⟩
abbrev main_call5_v1 : Ref sig .tc := ⟨.hbm, 133, rfl⟩
abbrev main_v65 : Ref sig .tc := ⟨.hbm, 134, rfl⟩
abbrev main_cst_14 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_cst_15 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_16 : Ref sig .tc := ⟨.hbm, 143, rfl⟩
abbrev main_call6_v0 : Ref sig .tc := ⟨.hbm, 144, rfl⟩
abbrev main_call6_v1 : Ref sig .tc := ⟨.hbm, 145, rfl⟩
abbrev main_v72 : Ref sig .tc := ⟨.hbm, 146, rfl⟩
abbrev main_v73 : Ref sig .tc := ⟨.hbm, 147, rfl⟩
abbrev main_cst_17 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_v78 : Ref sig .tc := ⟨.hbm, 153, rfl⟩
abbrev main_cst_18 : Ref sig .tc := ⟨.hbm, 154, rfl⟩
abbrev main_v79 : Ref sig .tc := ⟨.hbm, 155, rfl⟩
abbrev main_cst_19 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_20 : Ref sig .tc := ⟨.hbm, 160, rfl⟩
abbrev main_v83 : Ref sig .tc := ⟨.hbm, 161, rfl⟩
abbrev main_v84 : Ref sig .tc := ⟨.hbm, 162, rfl⟩
abbrev main_cst_21 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩

abbrev nD : Nat := 1
abbrev τ : Topo := Topo.v7x

variable {F : FTy → Type} [FloatOps F]
-- ==== Proof.Sc.lean ====
/-
  The SparseCore call of `KernelIdeal`, stated over any float values: thirty-two vector subcores, each fetching its 32
  node numbers and 32 action numbers, forming the flat positions `node * 32 + action`, gathering one entry per position
  out of each of the two log-probability tables, and writing the 32 sums to its part of the result. What each writes is
  tracked: the result of the call is `scOut`.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Value
public import Idealize.ShloMosaic.Lib.Tactic
public import proofs.«01_k».proof.Proof.Gen.KernelIdeal
public import proofs.«01_k».proof.Proof.Gen.KernelIdeal.Skeleton

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The launch -/

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_eq : (K (F := F)).nSub 0 = 16 := rfl
theorem nCore_eq : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UU : Type := UH × (Idealize.ShloMosaic.UR sig nD τ × Counters)

local notation "𝕄" => MT nD τ sig (HIx 1) (Elt F) ℕ UU ℕ

abbrev EH : Emb UH (MT nD τ sig (HIx 1) (Elt F) ℕ UU ℕ) := embL
abbrev EP : Emb (Idealize.ShloMosaic.UR sig nD τ) (MT nD τ sig (HIx 1) (Elt F) ℕ UU ℕ) := Emb.inl.trans embR

/-! ## The operands and what the call computes -/

/-- The contents of every buffer a TensorCore names, on each device: what the call finds. -/
abbrev Vals (F : FTy → Type) : Type := (d : Dev nD) → (b : Ref sig .tc) → Buf (Elt F) ((d.tc : Thread nD τ).loc b)

variable (W : Vals F)

abbrev nLoc (d : Dev nD) : Loc nD τ sig := (SparseCore.T d).loc main_v9
abbrev aLoc (d : Dev nD) : Loc nD τ sig := (SparseCore.T d).loc main_v12
abbrev tLoc (d : Dev nD) : Loc nD τ sig := (SparseCore.T d).loc main_v13
abbrev uLoc (d : Dev nD) : Loc nD τ sig := (SparseCore.T d).loc main_v14
abbrev oLoc (d : Dev nD) : Loc nD τ sig := (SparseCore.T d).loc main_v15

local notation "nV" => (Memref.whole Cert.KernelIdeal.main_v9_scv : Memref Cert.KernelIdeal.sig Kind.scVector Space.hbm Cert.KernelIdeal.S1024 EltTy.i32)
local notation "aV" => (Memref.whole Cert.KernelIdeal.main_v12_scv : Memref Cert.KernelIdeal.sig Kind.scVector Space.hbm Cert.KernelIdeal.S1024 EltTy.i32)
local notation "tV" => (Memref.whole Cert.KernelIdeal.main_v13_scv : Memref Cert.KernelIdeal.sig Kind.scVector Space.hbm Cert.KernelIdeal.S100000 EltTy.f32)
local notation "uV" => (Memref.whole Cert.KernelIdeal.main_v14_scv : Memref Cert.KernelIdeal.sig Kind.scVector Space.hbm Cert.KernelIdeal.S3200000 EltTy.f32)
local notation "oV" => (Memref.whole Cert.KernelIdeal.main_v15_scv : Memref Cert.KernelIdeal.sig Kind.scVector Space.hbm Cert.KernelIdeal.S1024 EltTy.f32)
local notation "s0" => (Memref.whole Cert.KernelIdeal.cc1_scratch0 : Memref Cert.KernelIdeal.sig Kind.scVector Space.vmem Cert.KernelIdeal.S32 EltTy.i32)
local notation "s1" => (Memref.whole Cert.KernelIdeal.cc1_scratch1 : Memref Cert.KernelIdeal.sig Kind.scVector Space.vmem Cert.KernelIdeal.S32 EltTy.i32)
local notation "s2" => (Memref.whole Cert.KernelIdeal.cc1_scratch2 : Memref Cert.KernelIdeal.sig Kind.scVector Space.vmem Cert.KernelIdeal.S32 EltTy.i32)
local notation "s3" => (Memref.whole Cert.KernelIdeal.cc1_scratch3 : Memref Cert.KernelIdeal.sig Kind.scVector Space.vmem Cert.KernelIdeal.S32 EltTy.f32)
local notation "s4" => (Memref.whole Cert.KernelIdeal.cc1_scratch4 : Memref Cert.KernelIdeal.sig Kind.scVector Space.vmem Cert.KernelIdeal.S32 EltTy.f32)
local notation "s5" => (Memref.whole Cert.KernelIdeal.cc1_scratch5 : Memref Cert.KernelIdeal.sig Kind.scVector Space.vmem Cert.KernelIdeal.S32 EltTy.f32)

/-- Position `k` of the node table, and of the flattened node-action table (positions past the end wrap round; none is
    read there). -/
def nodeIx (k : ℕ) : S100000.Idx := fun | 0 => ⟨k % 100000, Nat.mod_lt _ (by decide)⟩
def flatIx (k : ℕ) : S3200000.Idx := fun | 0 => ⟨k % 3200000, Nat.mod_lt _ (by decide)⟩

/-- The call's result: at each position, the node table's entry at that position's node plus the node-action table's
    at `node * 32 + action`. -/
def scVal (nd ac : S1024.Idx → BitVec 32) (t : FVec F S100000 .f32) (u : FVec F S3200000 .f32) : FVec F S1024 .f32 :=
  fun x => FloatOps.addf (t (nodeIx (nd x).toNat)) (u (flatIx ((nd x).toNat * 32 + (ac x).toNat)))

def scOut (d : Dev nD) : Buf (Elt F) (oLoc d) := scVal (F := F) (W d main_v9) (W d main_v12) (W d main_v13) (W d main_v14)

/-- What the tasks' reads ask of the indices. -/
def PreOK : Prop := ∀ (d : Dev nD) (j : S1024.Idx), (W d main_v9 j).toNat < 100000 ∧ (W d main_v12 j).toNat < 32

/-! ## Shares and parts -/

/-- Leaf `i` of the depth-`n` halving of share `q`: halve, and go left on the low half of the leaves, right on the high. -/
def leaf : (n : ℕ) → PosShare TreeShare → Fin (2 ^ n) → PosShare TreeShare
  | 0, q, _ => q
  | n + 1, q, i => Sum.elim (leaf n q.left) (leaf n q.right) ((finSumFinEquiv.trans (finCongr (by omega : 2 ^ n + 2 ^ n = 2 ^ (n + 1)))).symm i)

omit [FloatOps F] in
/-- Holding a share is holding all its leaves. -/
theorem pointsTo_leaves {ℓ : Loc nD τ sig} (I : Finset (Idx ℓ)) (f : Buf (Elt F) ℓ) (n : ℕ) :
    ∀ q : PosShare TreeShare, (ℓ ↦[I]{q} f : sProp 𝕄) = bigSep Finset.univ fun i : Fin (2 ^ n) => ℓ ↦[I]{leaf n q i} f := by
  induction n with
  | zero => intro q; exact (bigSep_univ_of_subsingleton (0 : Fin 1) (Φ := fun i : Fin (2 ^ 0) => (ℓ ↦[I]{leaf 0 q i} f : sProp 𝕄))).symm
  | succ n ih =>
    intro q
    rw [BI.Entails.antisymm (pointsTo_share (PosShare.mem_left_op_right q)).1 (pointsTo_share (PosShare.mem_left_op_right q)).2, ih q.left, ih q.right,
      bigSep_univ_equiv (finSumFinEquiv.trans (finCongr (by omega : 2 ^ n + 2 ^ n = 2 ^ (n + 1)))) (fun i : Fin (2 ^ (n + 1)) => (ℓ ↦[I]{leaf (n + 1) q i} f : sProp 𝕄)), bigSep_univ_sum]
    congr 1 <;> exact bigSep_congr fun i _ => by simp only [leaf, Equiv.symm_apply_apply, Sum.elim_inl, Sum.elim_inr]

/-- The share of an operand that core `c`'s subcore `i` reads by. -/
abbrev tq (c : Fin 2) (i : Fin 16) : PosShare TreeShare := leaf 4 (leaf 1 fullShare c) i

omit [FloatOps F] in
theorem pointsTo_tiles {ℓ : Loc nD τ sig} (f : Buf (Elt F) ℓ) :
    (ℓ ↦{fullShare} f : sProp 𝕄) = bigSep Finset.univ fun c : Fin 2 => bigSep Finset.univ fun i : Fin 16 => ℓ ↦{tq c i} f :=
  (pointsTo_leaves Finset.univ f 1 fullShare).trans (bigSep_congr fun c _ => pointsTo_leaves Finset.univ f 4 (leaf 1 fullShare c))

theorem odiv : 32 ∣ S1024.size 0 := ⟨32, rfl⟩
/-- The part of the result core `c`'s subcore `i` writes. -/
abbrev opart (p : Fin 2 × Fin 16) : Rect S1024 := Rect.part (s := S1024) (a₀ := 0) odiv ⟨2 * p.2.val + p.1.val, by omega⟩
abbrev oSet (p : Fin 2 × Fin 16) : Finset S1024.Idx := ((oV).view.slice (opart p)).set

theorem oSet_eq (p : Fin 2 × Fin 16) : oSet p = (opart p).set := by
  show ((View.whole (main_v15_scv : Ref sig .scVector)).slice (opart p)).set = _
  rw [View.set_slice]; exact Finset.map_refl
theorem oSet_disjoint : ∀ p ∈ (Finset.univ : Finset (Fin 2 × Fin 16)), ∀ p' ∈ (Finset.univ : Finset (Fin 2 × Fin 16)), p ≠ p' → Disjoint (oSet p) (oSet p') :=
  fun p _ p' _ h => by
    rw [oSet_eq, oSet_eq]
    refine Rect.part_disjoint odiv fun e => h ?_
    have := congrArg Fin.val e
    simp only at this
    exact Prod.ext (Fin.ext (by omega)) (Fin.ext (by omega))
theorem oSet_cover : (Finset.univ : Finset (Fin 2 × Fin 16)).biUnion oSet = Finset.univ := by
  refine Finset.eq_univ_iff_forall.mpr fun x => ?_
  have hx : x ∈ (Finset.univ : Finset (Fin 32)).biUnion fun k => (Rect.part (s := S1024) (a₀ := 0) odiv k).set := by
    rw [Rect.biUnion_part odiv]; exact Finset.mem_univ x
  obtain ⟨k, -, hk⟩ := Finset.mem_biUnion.mp hx
  refine Finset.mem_biUnion.mpr ⟨(⟨k.val % 2, by omega⟩, ⟨k.val / 2, by omega⟩), Finset.mem_univ _, ?_⟩
  rw [oSet_eq]
  have e : (⟨2 * (k.val / 2) + k.val % 2, by omega⟩ : Fin 32) = k := Fin.ext (by simp only; omega)
  unfold opart; rw [e]; exact hk

omit [FloatOps F] in
theorem oPts_parts (d : Dev nD) (f : Buf (Elt F) (oLoc d)) :
    (oLoc d ↦{fullShare} f : sProp 𝕄) = bigSep Finset.univ fun c : Fin 2 => bigSep Finset.univ fun i : Fin 16 => oLoc d ↦[oSet (c, i)]{fullShare} f := by
  rw [← bigSep_univ_prod (fun p : Fin 2 × Fin 16 => (oLoc d ↦[oSet p]{fullShare} f : sProp 𝕄)),
    ← pointsTo_biUnion Finset.univ (ℓ := oLoc d) oSet oSet_disjoint, oSet_cover]; try rfl

end Cert.Proof.Sc

end
-- ==== Proof.TcBody.lean ====
/-
  The TensorCore kernel's body at one grid point: what it leaves in its six result blocks, as functions of its six
  operand blocks.
-/
module

public import proofs.«01_k».proof.Proof.Sc
public import proofs.«01_k».proof.Proof.Gen.KernelIdeal.Launch
public import proofs.«01_k».proof.Proof.Gen.KernelIdeal.Points
public import Idealize.ShloMosaic.Lib.VecWindow
public import Idealize.ShloMosaic.Lib.Pipeline.FrameBody

@[expose] public section

noncomputable section

namespace Cert.Proof.Tc

open Cert.KernelIdeal Cert.KernelIdeal.Gen
open Cert.Proof.Sc

open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The six results of one block -/

section Out
variable (h : Vec F S4000x128 .f32) (am pm : Vec F S4000x32 .i32) (w : Vec F S128x1 .f32) (wa wq : Vec F S128x32 .f32)

/-- The probabilities of the block's nodes, 100 to a row; their logarithms. -/
def pnB : FVec F S40x100 .f32 := k0_pay11 (k0_pay3 h w) (k0_pay6 am pm)
def lpnB : FVec F S40x100 .f32 := k0_pay10 (k0_pay3 h w) (k0_pay6 am pm)
/-- The probabilities of each node's actions; their logarithms. -/
def paB : FVec F S4000x32 .f32 := k0_pay8 h wa am
def lpaB : FVec F S4000x32 .f32 := k0_pay7 h wa am
/-- The entropy and the value of each row. -/
def entB : FVec F S40x1 .f32 := k0_pay1 (k0_pay12 (k0_pay3 h w) (k0_pay6 am pm) (k0_pay7 h wa am) (k0_pay8 h wa am) (k0_pay9 (F := F)))
def valB : FVec F S40x1 .f32 := k0_pay2 (k0_pay13 (k0_pay3 h w) (k0_pay4 h wq) (k0_pay6 am pm) (k0_pay8 h wa am))
end Out

/-- A whole memref owned at contents `X` is its buffer at some contents that read `X`. -/
theorem owns_of_whole (c : Dev nD) {sp : Space} {s : Shape} {e : EltTy} (m : Memref sig .tc sp s e) (hm : m.IsWhole) (X : s.Idx → Elt F e) :
    (owns (c : Thread nD τ) m fullShare X : sProp 𝕄) = iprop(∃ f, ⌜m.view.read (Elt F) f = X⌝ ∗ (m.view.loc (c : Thread nD τ) ↦{fullShare} f)) := by
  unfold owns; rw [hm.set_eq_univ]

set_option maxHeartbeats 4000000 in
theorem body_run (c : Dev nD) (i : grid0.Coords)
    (M0 : Memref sig .tc .vmem S4000x128 .f32) (h0 : M0.IsWhole) (M1 : Memref sig .tc .vmem S4000x32 .i32) (h1 : M1.IsWhole) (M2 : Memref sig .tc .vmem S4000x32 .i32) (h2 : M2.IsWhole)
    (M3 : Memref sig .tc .vmem S128x1 .f32) (h3 : M3.IsWhole) (M4 : Memref sig .tc .vmem S128x32 .f32) (h4 : M4.IsWhole) (M5 : Memref sig .tc .vmem S128x32 .f32) (h5 : M5.IsWhole)
    (M6 : Memref sig .tc .vmem S40x100 .f32) (h6 : M6.IsWhole) (M7 : Memref sig .tc .vmem S4000x32 .f32) (h7 : M7.IsWhole) (M8 : Memref sig .tc .vmem S40x100 .f32) (h8 : M8.IsWhole)
    (M9 : Memref sig .tc .vmem S4000x32 .f32) (h9 : M9.IsWhole) (M10 : Memref sig .tc .vmem S40x1 .f32) (h10 : M10.IsWhole) (M11 : Memref sig .tc .vmem S40x1 .f32) (h11 : M11.IsWhole)
    (x0 : Vec F S4000x128 .f32) (x1 x2 : Vec F S4000x32 .i32) (x3 : Vec F S128x1 .f32) (x4 x5 : Vec F S128x32 .f32)
    (Q : PUnit → sProp 𝕄) :
    iprop(owns (c : Thread nD τ) M0 fullShare x0 ∗ owns (c : Thread nD τ) M1 fullShare x1 ∗ owns (c : Thread nD τ) M2 fullShare x2
        ∗ owns (c : Thread nD τ) M3 fullShare x3 ∗ owns (c : Thread nD τ) M4 fullShare x4 ∗ owns (c : Thread nD τ) M5 fullShare x5
        ∗ (∃ X, owns (c : Thread nD τ) M6 fullShare X) ∗ (∃ X, owns (c : Thread nD τ) M7 fullShare X) ∗ (∃ X, owns (c : Thread nD τ) M8 fullShare X)
        ∗ (∃ X, owns (c : Thread nD τ) M9 fullShare X) ∗ (∃ X, owns (c : Thread nD τ) M10 fullShare X) ∗ (∃ X, owns (c : Thread nD τ) M11 fullShare X)
        ∗ (iprop(owns (c : Thread nD τ) M0 fullShare x0 ∗ owns (c : Thread nD τ) M1 fullShare x1 ∗ owns (c : Thread nD τ) M2 fullShare x2
            ∗ owns (c : Thread nD τ) M3 fullShare x3 ∗ owns (c : Thread nD τ) M4 fullShare x4 ∗ owns (c : Thread nD τ) M5 fullShare x5
            ∗ owns (c : Thread nD τ) M6 fullShare (pnB x0 x1 x2 x3) ∗ owns (c : Thread nD τ) M7 fullShare (paB x0 x1 x4)
            ∗ owns (c : Thread nD τ) M8 fullShare (lpnB x0 x1 x2 x3) ∗ owns (c : Thread nD τ) M9 fullShare (lpaB x0 x1 x4)
            ∗ owns (c : Thread nD τ) M10 fullShare (entB x0 x1 x2 x3 x4) ∗ owns (c : Thread nD τ) M11 fullShare (valB x0 x1 x2 x3 x4 x5)) -∗ Q ⟨⟩))
      ⊢ wp frame (wpE (defs₀ (F := F)) 𝒱₀ (c : Thread nD τ) none) Set.univ
          (cc0__main_body i M0 h0 M1 h1 M2 h2 M3 h3 M4 h4 M5 h5 M6 h6 M7 h7 M8 h8 M9 h9 M10 h10 M11 h11) Q := by
  simp only [cc0__main_body_eq_skeleton]; unfold cc0__main_body_skel
  simp only [k0_part1_eq_skeleton, k0_part2_eq_skeleton]; unfold k0_part1_skel k0_part2_skel
  rw [owns_of_whole c M0 h0, owns_of_whole c M1 h1, owns_of_whole c M2 h2, owns_of_whole c M3 h3, owns_of_whole c M4 h4, owns_of_whole c M5 h5]
  simp only [owns_of_whole c M6 h6, owns_of_whole c M7 h7, owns_of_whole c M8 h8, owns_of_whole c M9 h9, owns_of_whole c M10 h10, owns_of_whole c M11 h11]
  iintro ⟨⟨%f0, %e0, H0⟩, ⟨%f1, %e1, H1⟩, ⟨%f2, %e2, H2⟩, ⟨%f3, %e3, H3⟩, ⟨%f4, %e4, H4⟩, ⟨%f5, %e5, H5⟩,
    ⟨%_, %f6, -, H6⟩, ⟨%_, %f7, -, H7⟩, ⟨%_, %f8, -, H8⟩, ⟨%_, %f9, -, H9⟩, ⟨%_, %f10, -, H10⟩, ⟨%_, %f11, -, H11⟩, Hk⟩
  sl_exec
  sl_step
  obtain rfl : x0 = M0.view.readAt (Elt F) (Rect.unit (s := S4000x128) ![0, 0] S4000x128.size inb_S4000x128_S4000x128_0_0).toLoadRect f0 := e0.symm.trans (View.readAt_full _ _ _).symm
  obtain rfl : x1 = M1.view.readAt (Elt F) (Rect.unit (s := S4000x32) ![0, 0] S4000x32.size inb_S4000x32_S4000x32_0_0).toLoadRect f1 := e1.symm.trans (View.readAt_full _ _ _).symm
  obtain rfl : x2 = M2.view.readAt (Elt F) (Rect.unit (s := S4000x32) ![0, 0] S4000x32.size inb_S4000x32_S4000x32_0_0).toLoadRect f2 := e2.symm.trans (View.readAt_full _ _ _).symm
  obtain rfl : x3 = M3.view.readAt (Elt F) (Rect.unit (s := S128x1) ![0, 0] S128x1.size inb_S128x1_S128x1_0_0).toLoadRect f3 := e3.symm.trans (View.readAt_full _ _ _).symm
  obtain rfl : x4 = M4.view.readAt (Elt F) (Rect.unit (s := S128x32) ![0, 0] S128x32.size inb_S128x32_S128x32_0_0).toLoadRect f4 := e4.symm.trans (View.readAt_full _ _ _).symm
  obtain rfl : x5 = M5.view.readAt (Elt F) (Rect.unit (s := S128x32) ![0, 0] S128x32.size inb_S128x32_S128x32_0_0).toLoadRect f5 := e5.symm.trans (View.readAt_full _ _ _).symm
  iapply Hk
  isplitl [H0]; · iexists _; isplitr; swap; (· iexact H0); ipureintro; exact e0
  isplitl [H1]; · iexists _; isplitr; swap; (· iexact H1); ipureintro; exact e1
  isplitl [H2]; · iexists _; isplitr; swap; (· iexact H2); ipureintro; exact e2
  isplitl [H3]; · iexists _; isplitr; swap; (· iexact H3); ipureintro; exact e3
  isplitl [H4]; · iexists _; isplitr; swap; (· iexact H4); ipureintro; exact e4
  isplitl [H5]; · iexists _; isplitr; swap; (· iexact H5); ipureintro; exact e5
  isplitl [H6]; · iexists _; isplitr; swap; (· iexact H6); ipureintro; exact View.read_writes_full _ _ _ _ _
  isplitl [H7]; · iexists _; isplitr; swap; (· iexact H7); ipureintro; exact View.read_writes_full _ _ _ _ _
  isplitl [H8]; · iexists _; isplitr; swap; (· iexact H8); ipureintro; exact View.read_writes_full _ _ _ _ _
  isplitl [H9]; · iexists _; isplitr; swap; (· iexact H9); ipureintro; exact View.read_writes_full _ _ _ _ _
  isplitl [H10]; · iexists _; isplitr; swap; (· iexact H10); ipureintro; exact View.read_writes_full _ _ _ _ _
  iexists _; isplitr; swap; (· iexact H11); ipureintro; exact View.read_writes_full _ _ _ _ _

end Cert.Proof.Tc

end
-- ==== Proof.TcData.lean ====
/-
  The TensorCore call's region: what each grid point leaves in the result windows, and that the body does.
-/
module

public import proofs.«01_k».proof.Proof.TcBody

@[expose] public section

noncomputable section

namespace Cert.Proof.Tc

open Cert.KernelIdeal Cert.KernelIdeal.Gen
open Cert.Proof.Sc

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-- The contents of every reference a TensorCore names, per core. -/
abbrev TcVals (F : FTy → Type) := (c : Dev nD) → (b : Ref sig .tc) → Buf (Elt F) ((c : Thread nD τ).loc b)

variable (V : TcVals F)

/-- The six operand blocks of point `t` at their own types. -/
def x0 (c : Dev nD) (t : Fin cfg0.N) : Vec F S4000x128 .f32 :=
  ((cfg0.win 0).blk t).view.read (Elt F) (V c (Pipeline.arrRef spec0 0))
def x1 (c : Dev nD) (t : Fin cfg0.N) : Vec F S4000x32 .i32 :=
  ((cfg0.win 1).blk t).view.read (Elt F) (V c (Pipeline.arrRef spec0 1))
def x2 (c : Dev nD) (t : Fin cfg0.N) : Vec F S4000x32 .i32 :=
  ((cfg0.win 2).blk t).view.read (Elt F) (V c (Pipeline.arrRef spec0 2))
def x3 (c : Dev nD) (t : Fin cfg0.N) : Vec F S128x1 .f32 :=
  ((cfg0.win 3).blk t).view.read (Elt F) (V c (Pipeline.arrRef spec0 3))
def x4 (c : Dev nD) (t : Fin cfg0.N) : Vec F S128x32 .f32 :=
  ((cfg0.win 4).blk t).view.read (Elt F) (V c (Pipeline.arrRef spec0 4))
def x5 (c : Dev nD) (t : Fin cfg0.N) : Vec F S128x32 .f32 :=
  ((cfg0.win 5).blk t).view.read (Elt F) (V c (Pipeline.arrRef spec0 5))

/-- The invariant of the region: the scoped buffers no window stages. -/
abbrev Φc (c : Dev nD) : sProp 𝕄 := Pipeline.scopedRest (Ix := HIx 1) (Name := ℕ) (U := UU) (Lvl := ℕ) (Val := Elt F) spec0 c

/-- The proof data of the region entered at `V`. -/
def dat (c : Dev nD) : Dat τ (Elt F) (HIx 1) ℕ UU ℕ cfg0 c where
  A w := V c (Pipeline.arrRef spec0 w)
  after w t := match w with
    | ⟨0, _⟩ => x0 V c t
    | ⟨1, _⟩ => x1 V c t
    | ⟨2, _⟩ => x2 V c t
    | ⟨3, _⟩ => x3 V c t
    | ⟨4, _⟩ => x4 V c t
    | ⟨5, _⟩ => x5 V c t
    | ⟨6, _⟩ => pnB (x0 V c t) (x1 V c t) (x2 V c t) (x3 V c t)
    | ⟨7, _⟩ => paB (x0 V c t) (x1 V c t) (x4 V c t)
    | ⟨8, _⟩ => lpnB (x0 V c t) (x1 V c t) (x2 V c t) (x3 V c t)
    | ⟨9, _⟩ => lpaB (x0 V c t) (x1 V c t) (x4 V c t)
    | ⟨10, _⟩ => entB (x0 V c t) (x1 V c t) (x2 V c t) (x3 V c t) (x4 V c t)
    | ⟨11, _⟩ => valB (x0 V c t) (x1 V c t) (x2 V c t) (x3 V c t) (x4 V c t) (x5 V c t)
  Φ _ := Φc c
  q _ := fullShare
  owed _ := (K (F := F)).Otc c 0
  recorded _ := {p | (K (F := F)).lev ((c : Thread nD τ), p.1) p.2 ≤ 0}

theorem before0 (c : Dev nD) (t : Fin cfg0.N) (d) : (dat V c).before 0 t d = x0 V c t :=
  Dat.before_in_eq_fetched (dat V c) 0 rfl (fun _ => rfl) (fun _ _ _ => rfl) (fun _ => rfl) t d
theorem before1 (c : Dev nD) (t : Fin cfg0.N) (d) : (dat V c).before 1 t d = x1 V c t :=
  Dat.before_in_eq_fetched (dat V c) 1 rfl (fun _ => rfl) (fun _ _ _ => rfl) (fun _ => rfl) t d
theorem before2 (c : Dev nD) (t : Fin cfg0.N) (d) : (dat V c).before 2 t d = x2 V c t :=
  Dat.before_in_eq_fetched (dat V c) 2 rfl (fun _ => rfl) (fun _ _ _ => rfl) (fun _ => rfl) t d
theorem before3 (c : Dev nD) (t : Fin cfg0.N) (d) : (dat V c).before 3 t d = x3 V c t :=
  Dat.before_in_eq_fetched (dat V c) 3 rfl (fun _ => rfl) (fun _ _ _ => rfl) (fun _ => rfl) t d
theorem before4 (c : Dev nD) (t : Fin cfg0.N) (d) : (dat V c).before 4 t d = x4 V c t :=
  Dat.before_in_eq_fetched (dat V c) 4 rfl (fun _ => rfl) (fun _ _ _ => rfl) (fun _ => rfl) t d
theorem before5 (c : Dev nD) (t : Fin cfg0.N) (d) : (dat V c).before 5 t d = x5 V c t :=
  Dat.before_in_eq_fetched (dat V c) 5 rfl (fun _ => rfl) (fun _ _ _ => rfl) (fun _ => rfl) t d

set_option maxRecDepth 16384 in
/-- The body leaves every point's blocks as the proof data says. -/
theorem body_obligation (c : Dev nD) : BodyObligation (dat V c) (defs₀ (F := F)) 𝒱₀ (none : HIx 1) Set.univ := fun t => by
  rw [bigSep_W0, bigSep_W0]
  rw [show (dat V c).Φ t.castSucc = Φc c from rfl, show (dat V c).Φ t.succ = Φc c from rfl,
    show (dat V c).owesAt (none : HIx 1) t.succ = (dat V c).owesAt (none : HIx 1) t.castSucc from rfl]
  simp only [before0, before1, before2, before3, before4, before5]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3))
    (st0_4 t) (hstage0_4 ((cfg0.slots t 4).cast nbuf0_4)) (st0_5 t) (hstage0_5 ((cfg0.slots t 5).cast nbuf0_5))
    (st0_6 t) (hstage0_6 ((cfg0.slots t 6).cast nbuf0_6)) (st0_7 t) (hstage0_7 ((cfg0.slots t 7).cast nbuf0_7))
    (st0_8 t) (hstage0_8 ((cfg0.slots t 8).cast nbuf0_8)) (st0_9 t) (hstage0_9 ((cfg0.slots t 9).cast nbuf0_9))
    (st0_10 t) (hstage0_10 ((cfg0.slots t 10).cast nbuf0_10)) (st0_11 t) (hstage0_11 ((cfg0.slots t 11).cast nbuf0_11))
    (x0 V c t) (x1 V c t) (x2 V c t) (x3 V c t) (x4 V c t) (x5 V c t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

end Cert.Proof.Tc
-- ==== Proof.TcRegion.lean ====
/-
  The TensorCore call's region: the region's segment over the
  TensorCore's unscoped buffers, entered while the thread still owes the SparseCore call's start.
-/
module

public import proofs.«01_k».proof.Proof.TcData
public import Idealize.ShloMosaic.Lib.Pipeline.RegionsLoop

@[expose] public section

noncomputable section

namespace Cert.Proof.Tc

open Cert.KernelIdeal Cert.KernelIdeal.Gen
open Cert.Proof.Sc

open Idealize.ShloMosaic
open Idealize.ShloMosaic.TcCoe
open Idealize.ShloMosaic.SparseCore.Cfg (HIx)
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (V : TcVals F)

/-! ## The region over the thread state -/

/-- The one pipeline's proof data. -/
abbrev pdats (p : Fin 1) (c : Dev nD) : Dat τ (Elt F) (HIx 1) ℕ UU ℕ (cfgs p) c := match p with | ⟨0, _⟩ => dat V c

/-- No table is prefetched. -/
abbrev adm : (p : Fin 1) → (pcfgs (F := F) p).Adm := fun p => (cfgs p).toPCfg_adm

theorem Otc_none (c : Dev nD) (g : GSem nD τ sig) : (K (F := F)).Otc c 0 g (none : HIx 1) = 0 := by
  by_contra h
  have := SparseCore.Cfg.lev_of_Otc_pos (K := K (F := F)) (Nat.pos_of_ne_zero h)
  rw [SparseCore.Cfg.lev_none] at this; omega

variable (Vp : TcVals F)

set_option backward.isDefEq.respectTransparency.types false in
/-- The TensorCore call as a segment: every unscoped buffer goes from `V` to `Vp`, which holds the windows' arrays as
    the last write-back leaves them; `R` and what the core owes go through unchanged. -/
def reg (R : Dev nD → sProp 𝕄) (hVp : ∀ c (w : Fin cfg0.W), (dat V c).arrAt w cfg0.N = Vp c (Pipeline.arrRef spec0 w))
    (hVp_ne : ∀ c (b : Ref sig .tc), (∀ w, b ≠ Pipeline.arrRef spec0 w) → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro (Pipeline.pin (pcfgs (F := F)) adm) (pdats V) (none : HIx 1) 0 c fun _ _ _ => (K (F := F)).mayWait_none _ (Otc_none c)
  pre c := iprop(unscopedBufs c (V c) ∗ R c ∗ ∃ W, ⌜(K (F := F)).WBelow (c : Thread nD τ) W 0⌝ ∗ owes (c : Thread nD τ) ((K (F := F)).Otc c 0) W)
  post c := iprop(unscopedBufs c (Vp c) ∗ R c ∗ ∃ W, ⌜(K (F := F)).WBelow (c : Thread nD τ) W 0⌝ ∗ owes (c : Thread nD τ) ((K (F := F)).Otc c 0) W)
  X _ := BI.emp
  Y _ := BI.emp
  Z c := iprop(Pipeline.unscopedRest (Ix := HIx 1) (Name := ℕ) (U := UU) (Lvl := ℕ) spec0 c (V c) ∗ R c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩
      iexists W
      isplitr
      · ipureintro; exact fun p hp => Or.inl (hW p hp)
      iexact HO
    isplitr; · iempintro
    isplitl [Hrest] <;> iassumption
  hin c := by
    rw [show (pdats V 0 c).Φ 0 = Φc c from rfl]; iintro ⟨-, -, Hr⟩; iexact Hr
  hout c := by
    rw [Pipeline.ownSems0_none, show (pdats V 0 c).Φ (Fin.last _) = Φc c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ)
      launch0.win launch0.arr_whole c (pdats V)
      ((pdats V 0 c).share_full fun _ => rfl) (V c) (Vp c) ((pdats V 0 c).arrAt · cfg0.N) (fun w => hVp c w)
      (fun b hb => hVp_ne c b fun w hw => hb (hw ▸ Finset.mem_image_of_mem _ (Finset.mem_univ w)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, %hW, HO⟩
    iexists W
    isplitr
    · ipureintro
      intro p hp
      rcases hW hp with h | h
      · exact h
      · obtain ⟨w, s, rfl⟩ := h; exact le_rfl
    iexact HO

end Cert.Proof.Tc
-- ==== Proof.ScTile.lean ====
/-
  One vector subcore's task of the SparseCore call, with the contents it leaves in its part of the result.
-/
module

public import proofs.«01_k».proof.Proof.Sc

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "nV" => (Memref.whole Cert.KernelIdeal.main_v9_scv : Memref Cert.KernelIdeal.sig Kind.scVector Space.hbm Cert.KernelIdeal.S1024 EltTy.i32)
local notation "aV" => (Memref.whole Cert.KernelIdeal.main_v12_scv : Memref Cert.KernelIdeal.sig Kind.scVector Space.hbm Cert.KernelIdeal.S1024 EltTy.i32)
local notation "tV" => (Memref.whole Cert.KernelIdeal.main_v13_scv : Memref Cert.KernelIdeal.sig Kind.scVector Space.hbm Cert.KernelIdeal.S100000 EltTy.f32)
local notation "uV" => (Memref.whole Cert.KernelIdeal.main_v14_scv : Memref Cert.KernelIdeal.sig Kind.scVector Space.hbm Cert.KernelIdeal.S3200000 EltTy.f32)
local notation "oV" => (Memref.whole Cert.KernelIdeal.main_v15_scv : Memref Cert.KernelIdeal.sig Kind.scVector Space.hbm Cert.KernelIdeal.S1024 EltTy.f32)
local notation "s0" => (Memref.whole Cert.KernelIdeal.cc1_scratch0 : Memref Cert.KernelIdeal.sig Kind.scVector Space.vmem Cert.KernelIdeal.S32 EltTy.i32)
local notation "s1" => (Memref.whole Cert.KernelIdeal.cc1_scratch1 : Memref Cert.KernelIdeal.sig Kind.scVector Space.vmem Cert.KernelIdeal.S32 EltTy.i32)
local notation "s2" => (Memref.whole Cert.KernelIdeal.cc1_scratch2 : Memref Cert.KernelIdeal.sig Kind.scVector Space.vmem Cert.KernelIdeal.S32 EltTy.i32)
local notation "s3" => (Memref.whole Cert.KernelIdeal.cc1_scratch3 : Memref Cert.KernelIdeal.sig Kind.scVector Space.vmem Cert.KernelIdeal.S32 EltTy.f32)
local notation "s4" => (Memref.whole Cert.KernelIdeal.cc1_scratch4 : Memref Cert.KernelIdeal.sig Kind.scVector Space.vmem Cert.KernelIdeal.S32 EltTy.f32)
local notation "s5" => (Memref.whole Cert.KernelIdeal.cc1_scratch5 : Memref Cert.KernelIdeal.sig Kind.scVector Space.vmem Cert.KernelIdeal.S32 EltTy.f32)

variable (W : Vals F) (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The task's core and subcore, as numbers below 2 and 16. -/
abbrev pL (L : grid1.Coords) : Fin 2 × Fin 16 := (Fin.cast bound_zero (L 0), Fin.cast bound_one (L 1))

/-- The task's 32 positions. -/
abbrev rK (L : grid1.Coords) : Rect S1024 := Rect.unit (s := S1024) (k1_off1 L) S32.size (k1_off1_inb L)
abbrev nK (L : grid1.Coords) : Memref sig .scVector .hbm S32 .i32 := (nV).slice (rK L) (fun _ => rfl)
abbrev aK (L : grid1.Coords) : Memref sig .scVector .hbm S32 .i32 := (aV).slice (rK L) (fun _ => rfl)
abbrev oK (L : grid1.Coords) : Memref sig .scVector .hbm S32 .f32 := (oV).slice (rK L) (fun _ => rfl)
abbrev tK : Memref sig .scVector .hbm S100000 .f32 := (tV).slice (Rect.unit (s := S100000) ![0] S100000.size inb_S100000_S100000_0) (fun _ => rfl)
abbrev uK : Memref sig .scVector .hbm S3200000 .f32 := (uV).slice (Rect.unit (s := S3200000) ![0] S3200000.size inb_S3200000_S3200000_0) (fun _ => rfl)

theorem rK_eq : rK L = opart (pL L) := by
  unfold rK opart Rect.part Rect.block
  congr 1 <;> funext a
  · rw [k1_off1_eq]
    match a with
    | 0 =>
      simp [Shape.partIx, Shape.partSize]
      exact (show 64 * (L 1).val + 32 * (L 0).val = (2 * (L 1).val + (L 0).val) * 32 by omega)
  · match a with
    | 0 => simp [Shape.partSize]

theorem set_oK : (oK L).view.set = oSet (pL L) := by
  show ((oV).view.slice (rK L)).set = ((oV).view.slice (opart (pL L))).set
  exact rK_eq L ▸ rfl

omit [FloatOps F] in
theorem pts_oK (f : Buf (Elt F) (oLoc d)) :
    ((oK L).view.loc (V d (cV L) (jV L)) ↦[(oK L).view.set]{fullShare} f : sProp 𝕄) = oLoc d ↦[oSet (pL L)]{fullShare} f := by
  rw [set_oK]

/-! ## The subcore's semaphores and scratch -/

abbrev gcell (d : Dev nD) (L : grid1.Coords) (s : DmaSem sig) : GSem nD τ sig := (V d (cV L) (jV L), .dma s)

omit [FloatOps F] in
theorem ownSems0_V :
    (ownSems0 (V d (cV L) (jV L)) : sProp 𝕄)
      = iprop(semVal (gcell d L cc1_scratch6.sem) 0 ∗ semVal (gcell d L cc1_scoped0.sem) 0 ∗ semVal (gcell d L cc1_scoped1.sem) 0 ∗ semVal (gcell d L cc1_scoped2.sem) 0
          ∗ bigSep (((((ownCells (V d (cV L) (jV L))).erase (gcell d L cc1_scratch6.sem)).erase (gcell d L cc1_scoped0.sem)).erase (gcell d L cc1_scoped1.sem)).erase
              (gcell d L cc1_scoped2.sem)) fun g => semVal g 0) := by
  have mem (s : DmaSem sig) (h : (SemLoc.dma s : SemLoc sig).isScoped .scVector = true) : gcell d L s ∈ ownCells (V d (cV L) (jV L)) :=
    (mem_ownCells (g := gcell d L s)).mpr ⟨rfl, h⟩
  have ne {s s' : DmaSem sig} (h : s ≠ s') : gcell d L s ≠ gcell d L s' := fun e => h (SemLoc.dma.inj (Prod.mk.inj e).2)
  unfold SparseCore.Cfg.ownSems0
  rw [SparseCore.bigSep_erase' (mem cc1_scratch6.sem (by decide)),
    SparseCore.bigSep_erase' (Finset.mem_erase.mpr ⟨ne (by decide), mem cc1_scoped0.sem (by decide)⟩),
    SparseCore.bigSep_erase' (Finset.mem_erase.mpr ⟨ne (by decide), Finset.mem_erase.mpr ⟨ne (by decide), mem cc1_scoped1.sem (by decide)⟩⟩),
    SparseCore.bigSep_erase' (Finset.mem_erase.mpr ⟨ne (by decide), Finset.mem_erase.mpr ⟨ne (by decide), Finset.mem_erase.mpr ⟨ne (by decide), mem cc1_scoped2.sem (by decide)⟩⟩⟩)]

abbrev bref (L : grid1.Coords) (b : Ref sig .scVector) : DevRef τ sig := (Proc.scVector (cV L) (jV L)).devRef b
abbrev sPts (d : Dev nD) (L : grid1.Coords) (b : Ref sig .scVector) : sProp 𝕄 := iprop(∃ f, (V d (cV L) (jV L)).loc b ↦{fullShare} f)

omit [FloatOps F] in
theorem ownBufs_V :
    (ownBufs (V d (cV L) (jV L)) : sProp 𝕄)
      = iprop(sPts d L cc1_scratch0 ∗ sPts d L cc1_scratch1 ∗ sPts d L cc1_scratch2 ∗ sPts d L cc1_scratch3 ∗ sPts d L cc1_scratch4 ∗ sPts d L cc1_scratch5
          ∗ bigSep (((((((ownRefs (τ := τ) (.scVector (cV L) (jV L))).erase (bref L cc1_scratch0)).erase (bref L cc1_scratch1)).erase (bref L cc1_scratch2)).erase
              (bref L cc1_scratch3)).erase (bref L cc1_scratch4)).erase (bref L cc1_scratch5))
              fun b => iprop(∃ f, ((d, b) : Loc nD τ sig) ↦{fullShare} f)) := by
  have mem (b : Ref sig .scVector) (h : (bref L b).owner = .proc (.scVector (cV L) (jV L))) : bref L b ∈ ownRefs (τ := τ) (.scVector (cV L) (jV L)) :=
    SparseCore.Cfg.mem_ownRefs_of_owner (p := Proc.scVector (cV L) (jV L)) (b := bref L b) h
  have ne {b b' : Ref sig .scVector} (h : b ≠ b') : bref L b ≠ bref L b' := fun e => h (Proc.devRef_injective _ e)
  unfold SparseCore.Cfg.ownBufs
  refine (SparseCore.bigSep_erase' (mem cc1_scratch0 rfl)).trans ?_
  rw [SparseCore.bigSep_erase' (Finset.mem_erase.mpr ⟨ne (by decide), mem cc1_scratch1 rfl⟩),
    SparseCore.bigSep_erase' (Finset.mem_erase.mpr ⟨ne (by decide), Finset.mem_erase.mpr ⟨ne (by decide), mem cc1_scratch2 rfl⟩⟩),
    SparseCore.bigSep_erase' (Finset.mem_erase.mpr ⟨ne (by decide), Finset.mem_erase.mpr ⟨ne (by decide), Finset.mem_erase.mpr ⟨ne (by decide), mem cc1_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), mem cc1_scratch4 rfl⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), mem cc1_scratch5 rfl⟩⟩⟩⟩⟩)]

/-- What a task is handed: its shares of the four operands, its part of the result; -/
abbrev goPts (d : Dev nD) (c : Fin 2) (i : Fin 16) : sProp 𝕄 :=
  iprop((nLoc d ↦{tq c i} W d main_v9) ∗ (aLoc d ↦{tq c i} W d main_v12) ∗ (tLoc d ↦{tq c i} W d main_v13) ∗ (uLoc d ↦{tq c i} W d main_v14)
    ∗ oLoc d ↦[oSet (c, i)]{fullShare} W d main_v15)
/-- and what it hands back: the same, its part of the result written. -/
abbrev tdPts (d : Dev nD) (c : Fin 2) (i : Fin 16) : sProp 𝕄 :=
  iprop((nLoc d ↦{tq c i} W d main_v9) ∗ (aLoc d ↦{tq c i} W d main_v12) ∗ (tLoc d ↦{tq c i} W d main_v13) ∗ (uLoc d ↦{tq c i} W d main_v14)
    ∗ oLoc d ↦[oSet (c, i)]{fullShare} scOut W d)

/-- A 32-element buffer written in its two halves holds what both halves were taken from. -/
theorem halves {κ : Kind} {sp : Space} {e : EltTy} (v : View sig κ sp S32 e) (f : v.ty.Contents (Elt F)) (G : S32.Idx → Elt F e)
    (p q : S16.Idx → Elt F e)
    (hp : ∀ x, p x = G ((Rect.unit (s := S32) ![16] S16.size inb_S32_S16_16).emb x))
    (hq : ∀ x, q x = G ((Rect.unit (s := S32) ![0] S16.size inb_S32_S16_0).emb x)) :
    v.read (Elt F) (v.writes (Elt F) f [⟨Rect.unit (s := S32) ![16] S16.size inb_S32_S16_16, p⟩, ⟨Rect.unit (s := S32) ![0] S16.size inb_S32_S16_0, q⟩]) = G :=
  funext fun y => View.read_writes_apply_of_pieces v f G _
    (fun z hz => by
      rcases List.mem_cons.mp hz with rfl | hz
      · exact hp
      · rcases List.mem_cons.mp hz with rfl | hz
        · exact hq
        · exact absurd hz List.not_mem_nil)
    y (View.cover_of_tiled (s := S32) _ ![16] rfl y)

/-- The task's node indices, its action indices, and the flat indices it computes from them. -/
def ndT : S32.Idx → BitVec 32 := fun x => W d main_v9 ((rK L).emb x)
def acT : S32.Idx → BitVec 32 := fun x => W d main_v12 ((rK L).emb x)
def fiT : S32.Idx → BitVec 32 := fun x => ndT W d L x * 32#32 + acT W d L x
/-- The entries it gathers from the two tables, and their sums. -/
def gtT : S32.Idx → Elt F .f32 := fun x => W d main_v13 (nodeIx (ndT W d L x).toNat)
def guT : S32.Idx → Elt F .f32 := fun x => W d main_v14 (flatIx ((ndT W d L x).toNat * 32 + (acT W d L x).toNat))
def sumT : S32.Idx → Elt F .f32 := fun x => FloatOps.addf (F := F) (φ := .f32) (gtT W d L x) (guT W d L x)

theorem ndT_lt (h : PreOK W) (x : S32.Idx) : (ndT W d L x).toNat < 100000 := (h d _).1
theorem fiT_toNat (h : PreOK W) (x : S32.Idx) : (fiT W d L x).toNat = (ndT W d L x).toNat * 32 + (acT W d L x).toNat := by
  have h1 : (ndT W d L x).toNat < 100000 := (h d _).1
  have h2 : (acT W d L x).toNat < 32 := (h d _).2
  unfold fiT
  rw [BitVec.toNat_add, BitVec.toNat_mul]
  simp only [BitVec.toNat_ofNat]
  omega
theorem fiT_lt (h : PreOK W) (x : S32.Idx) : (fiT W d L x).toNat < 3200000 := by
  have h1 : (ndT W d L x).toNat < 100000 := (h d _).1
  have h2 : (acT W d L x).toNat < 32 := (h d _).2
  rw [fiT_toNat W d L h]; omega

omit [FloatOps F] in
/-- A gather from a vector reads, at each position, the entry its list names there. -/
theorem gather_entry {n : ℕ} (hg : (⟨1, ![n]⟩ : Shape).Gathers 0 S32) (idx : S32.Idx → Elt F .i32) (hn : S32.numel = S32.size hg.axis')
    (hin : ∀ x, (idx x).toNat < (⟨1, ![n]⟩ : Shape).size hg.axis) (x : S32.Idx) :
    (hg.idx (SparseCore.rows idx hn hin) x 0).val = (idx x).toNat := by
  refine (congrArg Fin.val (Shape.Gathers.idx_axis hg (SparseCore.rows idx hn hin) x)).trans ?_
  show (idx (S32.rowMajor.symm ((x hg.axis').cast hn.symm))).toNat = (idx x).toNat
  refine congrArg (fun z => (idx z).toNat) (S32.rowMajor.injective (Fin.ext ?_))
  rw [Equiv.apply_symm_apply]
  exact (Shape.rowMajor_val_one x).symm

/-- What the first gather leaves in its buffer, -/
theorem gather_t (h : PreOK W) (f : (s3).view.ty.Contents (Elt F)) (hin : ∀ x, ((s0).view.read (Elt F) (ndT W d L) x).toNat < S100000.size gathers_S100000_S32.axis) (hn) :
    (s3).view.write (Elt F) f (SparseCore.gatherPayload gathers_S100000_S32 ((tK).view.read (Elt F) (W d main_v13))
      (SparseCore.rows ((s0).view.read (Elt F) (ndT W d L)) hn hin)) Finset.univ = gtT W d L := by
  rw [View.write_whole_univ]
  funext x
  unfold SparseCore.gatherPayload gtT
  have hs : ∀ y, (tK).view.read (Elt F) (W d main_v13) y = W d main_v13 y := fun y =>
    (View.read_apply _ _).trans ((cast_eq _ _).trans (congrArg (W d main_v13) (funext fun a => Fin.ext (by fin_cases a; exact (Nat.zero_add _).trans (Nat.one_mul _)))))
  rw [hs]
  refine congrArg (W d main_v13) (funext fun a => ?_)
  fin_cases a
  exact Fin.ext ((gather_entry (F := F) gathers_S100000_S32 (ndT W d L) hn hin x).trans (Nat.mod_eq_of_lt (ndT_lt W d L h x)).symm)

/-- and the second. -/
theorem gather_u (h : PreOK W) (f : (s4).view.ty.Contents (Elt F)) (hin : ∀ x, ((s2).view.read (Elt F) (fiT W d L) x).toNat < S3200000.size gathers_S3200000_S32.axis) (hn) :
    (s4).view.write (Elt F) f (SparseCore.gatherPayload gathers_S3200000_S32 ((uK).view.read (Elt F) (W d main_v14))
      (SparseCore.rows ((s2).view.read (Elt F) (fiT W d L)) hn hin)) Finset.univ = guT W d L := by
  rw [View.write_whole_univ]
  funext x
  unfold SparseCore.gatherPayload guT
  have hs : ∀ y, (uK).view.read (Elt F) (W d main_v14) y = W d main_v14 y := fun y =>
    (View.read_apply _ _).trans ((cast_eq _ _).trans (congrArg (W d main_v14) (funext fun a => Fin.ext (by fin_cases a; exact (Nat.zero_add _).trans (Nat.one_mul _)))))
  rw [hs]
  refine congrArg (W d main_v14) (funext fun a => ?_)
  fin_cases a
  refine Fin.ext ((gather_entry (F := F) gathers_S3200000_S32 (fiT W d L) hn hin x).trans ?_)
  rw [fiT_toNat W d L h]
  exact (Nat.mod_eq_of_lt (by rw [← fiT_toNat W d L h]; exact fiT_lt W d L h x)).symm

theorem ndT_inb (h : PreOK W) : ∀ x, ((s0).view.read (Elt F) (ndT W d L) x).toNat < S100000.size gathers_S100000_S32.axis := fun x => ndT_lt W d L h x
theorem fiT_inb (h : PreOK W) : ∀ x, ((s2).view.read (Elt F) (fiT W d L) x).toNat < S3200000.size gathers_S3200000_S32.axis := fun x => fiT_lt W d L h x

theorem pay3_apply (a b : Vec F S16 .i32) (x : S16.Idx) : k1_pay3 a b x = a x * 32#32 + b x := by
  unfold k1_pay3
  simp only [shapeCast_self]
  rfl
theorem pay4_apply (a b : Vec F S16 .i32) (x : S16.Idx) : k1_pay4 a b x = a x * 32#32 + b x := pay3_apply a b x
theorem pay1_apply (a b : Vec F S16 .f32) (x : S16.Idx) : k1_pay1 a b x = FloatOps.addf (a x) (b x) := by
  unfold k1_pay1
  simp only [shapeCast_self]
  rfl
theorem pay2_apply (a b : Vec F S16 .f32) (x : S16.Idx) : k1_pay2 a b x = FloatOps.addf (a x) (b x) := pay1_apply a b x

theorem credit3 : ∀ h : S100000.Gathers 0 S32, ∑ j, ((s3).slice (S32.rowRect h.axis' j) (S32.stride_rowRect h.axis' j)).view.dmaCredit = (s3).view.dmaCredit := by decide
theorem credit4 : ∀ h : S3200000.Gathers 0 S32, ∑ j, ((s4).slice (S32.rowRect h.axis' j) (S32.stride_rowRect h.axis' j)).view.dmaCredit = (s4).view.dmaCredit := by decide

set_option maxHeartbeats 4000000 in
theorem tile_body (hF : (K (F := F)).Facts) (hpre : PreOK W) (O : CellTallies nD τ sig (HIx 1)) (W₀ : Waits sig (HIx 1)) (hO : ∀ g, O g none = 0) :
    iprop(levAts (K (F := F)).L (K (F := F)).lev ∗ emp ∗ goPts W d (pL L).1 (pL L).2
        ∗ scopedBufs (V d (cV L) (jV L)) ∗ scopedSems0 (V d (cV L) (jV L)) ∗ owes (V d (cV L) (jV L)) O W₀)
      ⊢ wp frame (wpE (defs₀ (F := F)) 𝒱₀ (V d (cV L) (jV L)) none) Set.univ
          (cc1_body L nV (Memref.isWhole_whole _) aV (Memref.isWhole_whole _) tV (Memref.isWhole_whole _) uV (Memref.isWhole_whole _) oV (Memref.isWhole_whole _)
            s0 (Memref.isWhole_whole _) s1 (Memref.isWhole_whole _) s2 (Memref.isWhole_whole _) s3 (Memref.isWhole_whole _) s4 (Memref.isWhole_whole _) s5 (Memref.isWhole_whole _)
            cc1_scratch6 cc1_scoped0 cc1_scoped1 cc1_scoped2)
          fun _ => iprop(tdPts W d (pL L).1 (pL L).2
            ∗ scopedBufs (V d (cV L) (jV L)) ∗ scopedSems0 (V d (cV L) (jV L))
            ∗ ∃ W', ⌜∀ p ∈ W', p ∈ W₀ ∨ p.2 = none⌝ ∗ owes (V d (cV L) (jV L)) O W') := by
  simp only [cc1_body_eq_skeleton]; unfold cc1_body_skel
  simp only [k1_part1_eq_skeleton]; unfold k1_part1_skel
  rw [(K (F := F)).scopedBufs_V hF d (cV L) (jV L), SparseCore.Cfg.scopedSems0_V (Val := Elt F) d (cV L) (jV L), ownSems0_V, ownBufs_V]
  iintro ⟨#Hlv, -, ⟨Hn, Ha, Ht, Hu, Ho⟩, ⟨⟨%f0, H0⟩, ⟨%f1, H1⟩, ⟨%f2, H2⟩, ⟨%f3, H3⟩, ⟨%f4, H4⟩, ⟨%f5, H5⟩, Hbufs⟩, ⟨HsemG, HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oK (F := F) d L _).symm) $$ Ho
  ihave Hns := (pointsTo_split_subset (q := tq (pL L).1 (pL L).2) (f := W d main_v9) (S := Finset.univ) (Finset.subset_univ (nK L).view.set)).1 $$ Hn
  icases Hns with ⟨Hns, Hnr⟩
  ihave Hns := (Entails.of_eq (show (nLoc d ↦[(nK L).view.set]{tq (pL L).1 (pL L).2} W d main_v9 : sProp 𝕄) = (nK L).view.loc (V d (cV L) (jV L)) ↦[(nK L).view.set]{tq (pL L).1 (pL L).2} W d main_v9 from rfl)) $$ Hns
  ihave Has := (pointsTo_split_subset (q := tq (pL L).1 (pL L).2) (f := W d main_v12) (S := Finset.univ) (Finset.subset_univ (aK L).view.set)).1 $$ Ha
  icases Has with ⟨Has, Har⟩
  ihave Has := (Entails.of_eq (show (aLoc d ↦[(aK L).view.set]{tq (pL L).1 (pL L).2} W d main_v12 : sProp 𝕄) = (aK L).view.loc (V d (cV L) (jV L)) ↦[(aK L).view.set]{tq (pL L).1 (pL L).2} W d main_v12 from rfl)) $$ Has
  ihave H0 := (Entails.of_eq (show ((V d (cV L) (jV L)).loc cc1_scratch0 ↦{fullShare} f0 : sProp 𝕄) = (s0).view.loc (V d (cV L) (jV L)) ↦{fullShare} f0 from rfl)) $$ H0
  ihave H1 := (Entails.of_eq (show ((V d (cV L) (jV L)).loc cc1_scratch1 ↦{fullShare} f1 : sProp 𝕄) = (s1).view.loc (V d (cV L) (jV L)) ↦{fullShare} f1 from rfl)) $$ H1
  ihave H2 := (Entails.of_eq (show ((V d (cV L) (jV L)).loc cc1_scratch2 ↦{fullShare} f2 : sProp 𝕄) = (s2).view.loc (V d (cV L) (jV L)) ↦{fullShare} f2 from rfl)) $$ H2
  ihave H5 := (Entails.of_eq (show ((V d (cV L) (jV L)).loc cc1_scratch5 ↦{fullShare} f5 : sProp 𝕄) = (s5).view.loc (V d (cV L) (jV L)) ↦{fullShare} f5 from rfl)) $$ H5
  sl_exec
  ihave H0 := (Entails.of_eq (show ((s0).view.loc (V d (cV L) (jV L)) ↦{fullShare} View.write (Elt F) (s0).view f0 (tile_body.sl.dma0 W d L) Finset.univ : sProp 𝕄)
      = (s0).view.loc (V d (cV L) (jV L)) ↦[(s0).view.set]{fullShare} ndT W d L by rw [View.write_whole_univ, show (s0).view.set = Finset.univ from View.set_whole _]; rfl)) $$ H0
  ihave H1 := (Entails.of_eq (show ((s1).view.loc (V d (cV L) (jV L)) ↦{fullShare} View.write (Elt F) (s1).view f1 (tile_body.sl.dma0_1 W d L) Finset.univ : sProp 𝕄)
      = (s1).view.loc (V d (cV L) (jV L)) ↦{fullShare} acT W d L by rw [View.write_whole_univ]; rfl)) $$ H1
  ihave H2 := (Entails.of_eq (show ((s2).view.loc (V d (cV L) (jV L)) ↦{fullShare} (s2).view.writes (Elt F) f2
        [⟨Rect.unit (s := S32) ![16] S16.size inb_S32_S16_16, k1_pay4 ((s0).view.readAt (Elt F) (Rect.unit (s := S32) ![16] S16.size inb_S32_S16_16).toLoadRect (View.write (Elt F) (s0).view f0 (tile_body.sl.dma0 W d L) Finset.univ))
            ((s1).view.readAt (Elt F) (Rect.unit (s := S32) ![16] S16.size inb_S32_S16_16).toLoadRect (View.write (Elt F) (s1).view f1 (tile_body.sl.dma0_1 W d L) Finset.univ))⟩,
         ⟨Rect.unit (s := S32) ![0] S16.size inb_S32_S16_0, k1_pay3 ((s0).view.readAt (Elt F) (Rect.unit (s := S32) ![0] S16.size inb_S32_S16_0).toLoadRect (View.write (Elt F) (s0).view f0 (tile_body.sl.dma0 W d L) Finset.univ))
            ((s1).view.readAt (Elt F) (Rect.unit (s := S32) ![0] S16.size inb_S32_S16_0).toLoadRect (View.write (Elt F) (s1).view f1 (tile_body.sl.dma0_1 W d L) Finset.univ))⟩] : sProp 𝕄)
      = (s2).view.loc (V d (cV L) (jV L)) ↦[(s2).view.set]{fullShare} fiT W d L by
        rw [show (s2).view.set = Finset.univ from View.set_whole _]
        refine congrArg (fun f => ((s2).view.loc (V d (cV L) (jV L)) ↦{fullShare} f : sProp 𝕄)) ?_
        refine halves (s2).view f2 (fiT W d L) _ _ (fun x => ?_) (fun x => ?_)
        · show k1_pay4 _ _ x = _
          rw [View.write_whole_univ, View.write_whole_univ, pay4_apply]
          rfl
        · show k1_pay3 _ _ x = _
          rw [View.write_whole_univ, View.write_whole_univ, pay3_apply]
          rfl)) $$ H2
  -- the two gathers
  have hr3 : (s3).view.set = Finset.univ := View.set_whole _
  have hr4 : (s4).view.set = Finset.univ := View.set_whole _
  ihave H3 := (Entails.of_eq (show ((V d (cV L) (jV L)).loc cc1_scratch3 ↦{fullShare} f3 : sProp 𝕄) = (s3).view.loc (V d (cV L) (jV L)) ↦[(s3).view.set]{fullShare} f3 by rw [hr3])) $$ H3
  ihave H4 := (Entails.of_eq (show ((V d (cV L) (jV L)).loc cc1_scratch4 ↦{fullShare} f4 : sProp 𝕄) = (s4).view.loc (V d (cV L) (jV L)) ↦[(s4).view.set]{fullShare} f4 by rw [hr4])) $$ H4
  ihave Hts := (pointsTo_split_subset (q := tq (pL L).1 (pL L).2) (f := W d main_v13) (S := Finset.univ) (Finset.subset_univ (tK).view.set)).1 $$ Ht
  icases Hts with ⟨Hts, Htr⟩
  ihave Hus := (pointsTo_split_subset (q := tq (pL L).1 (pL L).2) (f := W d main_v14) (S := Finset.univ) (Finset.subset_univ (uK).view.set)).1 $$ Hu
  icases Hus with ⟨Hus, Hur⟩
  iapply (SparseCore.wp_indirectGatherLocal countersEmb 𝒱₀ (V d (cV L) (jV L)) none (hg := gathers_S100000_S32) (default : HIx 1)
      (s3).view.dmaCredit (credit3 _) (by decide) (ndT_inb W d L hpre)) $$ [Hts H3 H0 HsemG]
  · isplitl [Hts]; · iexact Hts
    isplitl [H3]; · iexact H3
    isplitl [H0]; · iexact H0
    iexact HsemG
  iintro Hfl
  sl_exec
  iapply (Transfers.wp_waitLocalO countersEmb 𝒱₀ (V d (cV L) (jV L)) none (default : HIx 1) (rfl : (s3).view.dmaCredit = _)) $$ [Hfl HO]
  · isplitl [Hfl]; · iexact Hfl
    isplitl [HO]; · iexact HO
    iapply (Transfers.MayWaits.elim (SemLoc.dma cc1_scratch6.sem)) $$ Hmw
  iintro ⟨⟨H3, Hts, H0⟩, HsemG, HO⟩
  sl_exec
  iapply (SparseCore.wp_indirectGatherLocal countersEmb 𝒱₀ (V d (cV L) (jV L)) none (hg := gathers_S3200000_S32) (default : HIx 1)
      (s4).view.dmaCredit (credit4 _) (by decide) (fiT_inb W d L hpre)) $$ [Hus H4 H2 HsemG]
  · isplitl [Hus]; · iexact Hus
    isplitl [H4]; · iexact H4
    isplitl [H2]; · iexact H2
    iexact HsemG
  iintro Hfl
  sl_exec
  iapply (Transfers.wp_waitLocalO countersEmb 𝒱₀ (V d (cV L) (jV L)) none (default : HIx 1) (rfl : (s4).view.dmaCredit = _)) $$ [Hfl HO]
  · isplitl [Hfl]; · iexact Hfl
    isplitl [HO]; · iexact HO
    iapply (Transfers.MayWaits.elim (SemLoc.dma cc1_scratch6.sem)) $$ Hmw
  iintro ⟨⟨H4, Hus, H2⟩, HsemG, HO⟩
  ihave Ht := (pointsTo_split_subset (q := tq (pL L).1 (pL L).2) (f := W d main_v13) (S := Finset.univ) (Finset.subset_univ (tK).view.set)).2 $$ [Hts Htr]; · isplitl [Hts] <;> iassumption
  ihave Hu := (pointsTo_split_subset (q := tq (pL L).1 (pL L).2) (f := W d main_v14) (S := Finset.univ) (Finset.subset_univ (uK).view.set)).2 $$ [Hus Hur]; · isplitl [Hus] <;> iassumption
  ihave H3 := (Entails.of_eq (show ((s3).view.loc (V d (cV L) (jV L)) ↦[(s3).view.set]{fullShare} _ : sProp 𝕄)
      = (s3).view.loc (V d (cV L) (jV L)) ↦{fullShare} gtT W d L by
        rw [hr3]; exact congrArg (fun f => ((s3).view.loc (V d (cV L) (jV L)) ↦{fullShare} f : sProp 𝕄)) (gather_t W d L hpre f3 (ndT_inb W d L hpre) _))) $$ H3
  ihave H4 := (Entails.of_eq (show ((s4).view.loc (V d (cV L) (jV L)) ↦[(s4).view.set]{fullShare} _ : sProp 𝕄)
      = (s4).view.loc (V d (cV L) (jV L)) ↦{fullShare} guT W d L by
        rw [hr4]; exact congrArg (fun f => ((s4).view.loc (V d (cV L) (jV L)) ↦{fullShare} f : sProp 𝕄)) (gather_u W d L hpre f4 (fiT_inb W d L hpre) _))) $$ H4
  sl_exec
  have hsum : tile_body.sl.dma8 W d L f5 = sumT W d L :=
    halves (s5).view f5 (sumT W d L) _ _ (fun x => pay2_apply _ _ x) (fun x => pay1_apply _ _ x)
  have hout : ∀ i ∈ (oK L).view.set, (oK L).view.writes (Elt F) (W d main_v15) [⟨Rect.whole S32, tile_body.sl.dma8 W d L f5⟩] i = scOut W d i := by
    intro i hi
    obtain ⟨y, -, rfl⟩ := Finset.mem_map.mp hi
    have h := View.read_writes_apply_of_pieces (oK L).view (W d main_v15) (sumT W d L) [⟨Rect.whole S32, tile_body.sl.dma8 W d L f5⟩]
      (fun p hp x => by
        obtain rfl := List.mem_singleton.mp hp
        show tile_body.sl.dma8 W d L f5 x = _
        rw [hsum]; exact congrArg (sumT W d L) (Rect.emb_whole_apply _ x).symm) y
      ⟨_, List.mem_cons_self, by rw [Rect.set_whole]; exact Finset.mem_univ y⟩
    exact ((View.read_apply _ _).trans (cast_eq _ _)).symm.trans h
  ihave Ho := (Entails.of_eq ((pointsTo_congr hout).trans (pts_oK (F := F) d L _))) $$ Ho'
  sl_step
  isplitl [Hnr Har Ht Hu Ho]
  · isplitl [Hnr]; · iexact Hnr
    isplitl [Har]; · iexact Har
    isplitl [Ht]; · iexact Ht
    isplitl [Hu]; · iexact Hu
    iexact Ho
  isplitl [H0 H1 H2 H3 H4 H5 Hbufs]
  · isplitl [H0]
    · iexists _; iapply (Entails.of_eq (show ((s0).view.loc (V d (cV L) (jV L)) ↦[(s0).view.set]{fullShare} ndT W d L : sProp 𝕄) = (V d (cV L) (jV L)).loc cc1_scratch0 ↦{fullShare} ndT W d L by
        rw [show (s0).view.set = Finset.univ from View.set_whole _])); iexact H0
    isplitl [H1]; · iexists _; iexact H1
    isplitl [H2]
    · iexists _; iapply (Entails.of_eq (show ((s2).view.loc (V d (cV L) (jV L)) ↦[(s2).view.set]{fullShare} fiT W d L : sProp 𝕄) = (V d (cV L) (jV L)).loc cc1_scratch2 ↦{fullShare} fiT W d L by
        rw [show (s2).view.set = Finset.univ from View.set_whole _])); iexact H2
    isplitl [H3]; · iexists _; iexact H3
    isplitl [H4]; · iexists _; iexact H4
    isplitl [H5]; · iexists _; iexact H5
    iexact Hbufs
  isplitl [HsemG HsemA HsemB HsemC Hsems]
  · isplitl [HsemG]; · iexact HsemG
    isplitl [HsemA]; · iexact HsemA
    isplitl [HsemB]; · iexact HsemB
    isplitl [HsemC]; · iexact HsemC
    iexact Hsems
  iexists _; isplitr
  swap; · iexact HO
  ipureintro; intro p hp
  iterate 5 (rcases Finset.mem_insert.mp hp with hp | hp; · exact .inr (hp ▸ rfl))
  exact .inl hp

end Cert.Proof.Sc

end
-- ==== Proof.ScCall.lean ====
/-
  The SparseCore call as its launch sees it: what it takes and gives back, its tasks' obligation, and how its operands
  split among the tasks.
-/
module

public import proofs.«01_k».proof.Proof.ScTile

@[expose] public section

noncomputable section

namespace Cert.Proof.Sc

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "nV" => (Memref.whole Cert.KernelIdeal.main_v9_scv : Memref Cert.KernelIdeal.sig Kind.scVector Space.hbm Cert.KernelIdeal.S1024 EltTy.i32)
local notation "aV" => (Memref.whole Cert.KernelIdeal.main_v12_scv : Memref Cert.KernelIdeal.sig Kind.scVector Space.hbm Cert.KernelIdeal.S1024 EltTy.i32)
local notation "tV" => (Memref.whole Cert.KernelIdeal.main_v13_scv : Memref Cert.KernelIdeal.sig Kind.scVector Space.hbm Cert.KernelIdeal.S100000 EltTy.f32)
local notation "uV" => (Memref.whole Cert.KernelIdeal.main_v14_scv : Memref Cert.KernelIdeal.sig Kind.scVector Space.hbm Cert.KernelIdeal.S3200000 EltTy.f32)
local notation "oV" => (Memref.whole Cert.KernelIdeal.main_v15_scv : Memref Cert.KernelIdeal.sig Kind.scVector Space.hbm Cert.KernelIdeal.S1024 EltTy.f32)
local notation "s0" => (Memref.whole Cert.KernelIdeal.cc1_scratch0 : Memref Cert.KernelIdeal.sig Kind.scVector Space.vmem Cert.KernelIdeal.S32 EltTy.i32)
local notation "s1" => (Memref.whole Cert.KernelIdeal.cc1_scratch1 : Memref Cert.KernelIdeal.sig Kind.scVector Space.vmem Cert.KernelIdeal.S32 EltTy.i32)
local notation "s2" => (Memref.whole Cert.KernelIdeal.cc1_scratch2 : Memref Cert.KernelIdeal.sig Kind.scVector Space.vmem Cert.KernelIdeal.S32 EltTy.i32)
local notation "s3" => (Memref.whole Cert.KernelIdeal.cc1_scratch3 : Memref Cert.KernelIdeal.sig Kind.scVector Space.vmem Cert.KernelIdeal.S32 EltTy.f32)
local notation "s4" => (Memref.whole Cert.KernelIdeal.cc1_scratch4 : Memref Cert.KernelIdeal.sig Kind.scVector Space.vmem Cert.KernelIdeal.S32 EltTy.f32)
local notation "s5" => (Memref.whole Cert.KernelIdeal.cc1_scratch5 : Memref Cert.KernelIdeal.sig Kind.scVector Space.vmem Cert.KernelIdeal.S32 EltTy.f32)

variable (W : Vals F)

/-- The call takes every task's part and gives every task's part back. -/
def P : (K (F := F)).Pay (nD := nD) (Val := Elt F) (Name := ℕ) (U := UU) where
  st := fun q d c => match q with | 0 => bigSep Finset.univ fun i : Fin 16 => goPts W d (Fin.cast nCore_eq c) i
  dn := fun q d c => match q with | 0 => bigSep Finset.univ fun i : Fin 16 => tdPts W d (Fin.cast nCore_eq c) i
  go := fun q d c i => match q with | 0 => goPts W d (Fin.cast nCore_eq c) (Fin.cast nSub_eq i)
  td := fun q d c i => match q with | 0 => tdPts W d (Fin.cast nCore_eq c) (Fin.cast nSub_eq i)
  x := fun _ _ => iprop(emp)

instance P_storable : (P W).IsStorable where
  st q d c := match q with
    | 0 => (inferInstance : BI.Storable (upEmb : UEmb _ 𝕄) (bigSep Finset.univ fun i : Fin 16 => goPts W d (Fin.cast nCore_eq c) i))
  dn q d c := match q with
    | 0 => (inferInstance : BI.Storable (upEmb : UEmb _ 𝕄) (bigSep Finset.univ fun i : Fin 16 => tdPts W d (Fin.cast nCore_eq c) i))
  go q d c i := match q with
    | 0 => (inferInstance : BI.Storable (upEmb : UEmb _ 𝕄) (goPts W d (Fin.cast nCore_eq c) (Fin.cast nSub_eq i)))
  td q d c i := match q with
    | 0 => (inferInstance : BI.Storable (upEmb : UEmb _ 𝕄) (tdPts W d (Fin.cast nCore_eq c) (Fin.cast nSub_eq i)))

/-- A core and a subcore as a grid point. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1_body (coordsV c s)
          nV (Memref.isWhole_whole _) aV (Memref.isWhole_whole _) tV (Memref.isWhole_whole _) uV (Memref.isWhole_whole _) oV (Memref.isWhole_whole _)
          s0 (Memref.isWhole_whole _) s1 (Memref.isWhole_whole _) s2 (Memref.isWhole_whole _) s3 (Memref.isWhole_whole _) s4 (Memref.isWhole_whole _) s5 (Memref.isWhole_whole _)
          cc1_scratch6 cc1_scoped0 cc1_scoped1 cc1_scoped2) ⟨⟩ c s := rfl

omit [FloatOps F] in
/-- The waits a task made are all of the kind its launch allows. -/
theorem obl_waits {thr : Thread nD τ} {A B C : sProp 𝕄} {O : CellTallies nD τ sig (HIx 1)} {W₀ : Waits sig (HIx 1)} {q : Fin 1} :
    iprop(A ∗ B ∗ C ∗ ∃ W', ⌜∀ p ∈ W', p ∈ W₀ ∨ p.2 = none⌝ ∗ owes thr O W')
      ⊢ iprop(A ∗ B ∗ C ∗ ∃ W', ⌜∀ p ∈ W', p ∈ W₀ ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK W) : (K (F := F)).TileObl (D (F := F)) 𝒱 (P W) v₀ 0 := by
  intro d c i O W₀ hO _ _
  simp only [show (P W).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body W d (coordsV ⟨_, hci.1⟩ ⟨_, hci.2⟩) hF hpre O W₀ hO).trans (wp_mono frame _ _ fun _ => obl_waits)

theorem bigSep_tasks (Φ : Fin 16 → sProp 𝕄) :
    (bigSep Finset.univ fun i : Fin ((K (F := F)).nSub 0) => Φ (Fin.cast nSub_eq i)) = bigSep Finset.univ Φ :=
  bigSep_congr fun _ _ => congrArg Φ (Fin.ext rfl)
theorem bigSep_cores (Φ : Fin 2 → sProp 𝕄) :
    (bigSep Finset.univ fun c : Fin ((K (F := F)).nCore 0) => Φ (Fin.cast nCore_eq c)) = bigSep Finset.univ Φ :=
  bigSep_congr fun _ _ => congrArg Φ (Fin.ext rfl)

theorem vecSplit : (K (F := F)).VecSplit' (P W) 0 := by
  intro d c
  show (bigSep Finset.univ fun i : Fin 16 => goPts W d (Fin.cast nCore_eq c) i) ⊢ |={Set.univ}=> iprop(
      (bigSep Finset.univ fun i : Fin ((K (F := F)).nSub 0) => goPts W d (Fin.cast nCore_eq c) (Fin.cast nSub_eq i))
      ∗ ((bigSep Finset.univ fun i : Fin ((K (F := F)).nSub 0) => tdPts W d (Fin.cast nCore_eq c) (Fin.cast nSub_eq i))
          -∗ bigSep Finset.univ fun i : Fin 16 => tdPts W d (Fin.cast nCore_eq c) i))
  rw [bigSep_tasks (F := F) (fun i => goPts W d (Fin.cast nCore_eq c) i), bigSep_tasks (F := F) (fun i => tdPts W d (Fin.cast nCore_eq c) i)]
  iintro H; imodintro
  isplitl [H]; · iexact H
  iintro H; iexact H

/-- The call's operands and its result buffer, whole, are what the call takes; -/
theorem st_eq (d : Dev nD) : (bigSep Finset.univ fun c : Fin ((K (F := F)).nCore 0) => (P W).st 0 d c)
    = iprop((nLoc d ↦{fullShare} W d main_v9) ∗ (aLoc d ↦{fullShare} W d main_v12) ∗ (tLoc d ↦{fullShare} W d main_v13) ∗ (uLoc d ↦{fullShare} W d main_v14)
        ∗ oLoc d ↦{fullShare} W d main_v15) := by
  show (bigSep Finset.univ fun c : Fin ((K (F := F)).nCore 0) => bigSep Finset.univ fun i : Fin 16 => goPts W d (Fin.cast nCore_eq c) i) = _
  rw [bigSep_cores (F := F) (fun c => bigSep Finset.univ fun i : Fin 16 => goPts W d c i)]
  simp only [bigSep_sep']
  rw [← pointsTo_tiles, ← pointsTo_tiles, ← pointsTo_tiles, ← pointsTo_tiles, ← oPts_parts]

/-- and the same with the result written is what it gives back. -/
theorem dn_eq (d : Dev nD) : (bigSep Finset.univ fun c : Fin ((K (F := F)).nCore 0) => (P W).dn 0 d c)
    = iprop((nLoc d ↦{fullShare} W d main_v9) ∗ (aLoc d ↦{fullShare} W d main_v12) ∗ (tLoc d ↦{fullShare} W d main_v13) ∗ (uLoc d ↦{fullShare} W d main_v14)
        ∗ oLoc d ↦{fullShare} scOut W d) := by
  show (bigSep Finset.univ fun c : Fin ((K (F := F)).nCore 0) => bigSep Finset.univ fun i : Fin 16 => tdPts W d (Fin.cast nCore_eq c) i) = _
  rw [bigSep_cores (F := F) (fun c => bigSep Finset.univ fun i : Fin 16 => tdPts W d c i)]
  simp only [bigSep_sep']
  rw [← pointsTo_tiles, ← pointsTo_tiles, ← pointsTo_tiles, ← pointsTo_tiles, ← oPts_parts]

end Cert.Proof.Sc

end
-- ==== Proof.Main.lean ====
/-
  The whole program's run: the valuation of every unscoped buffer after each stretch of @main, @main's proof through the
  two calls, and the run from any launch memory whose indices are in range.
-/
module

public import proofs.«01_k».proof.Proof.TcRegion
public import proofs.«01_k».proof.Proof.ScCall
public import Idealize.ShloMosaic.Lib.StableHlo.RunRead
public import Idealize.ShloMosaic.Lib.SparseCore.Quiescent

@[expose] public section

noncomputable section

namespace Cert.Proof.Main

open Cert.KernelIdeal Cert.KernelIdeal.Gen
open Cert.Proof.Sc Cert.Proof.Tc

open Idealize.ShloMosaic
open Idealize.ShloMosaic.TcCoe
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## @main as its stretches -/

/-- The host operations before the TensorCore call. -/
def ops0 : List (HloOp τ sig (Elt F)) :=
  [StableHlo.reshape main_arg8 main_v0 (rfl : (.f32 : EltTy) = .f32) shapeCasts_S128x64_S128x2x32,
   StableHlo.nullary main_cst (constant S_ .f32 0x00000000#32),
   StableHlo.binary main_v0 main_cst main_v1 ((fun x v => Host.reduceAdd x v reducesTo_S128x2x32_S128x32_d1 h_S_) : (⟨S128x2x32, .f32⟩ : BufTy).Contents (Elt F) → (⟨S_, .f32⟩ : BufTy).Contents (Elt F) → (⟨S128x32, .f32⟩ : BufTy).Contents (Elt F)),
   StableHlo.nullary main_cst_0 (constant S_ .f32 0x40000000#32),
   StableHlo.unary main_cst_0 main_v2 (broadcastInDim S128x32 ![] bcast_S_S128x32 : (⟨S_, .f32⟩ : BufTy).Contents (Elt F) → (⟨S128x32, .f32⟩ : BufTy).Contents (Elt F)),
   StableHlo.binary main_v1 main_v2 main_v3 (Host.divf : (⟨S128x32, .f32⟩ : BufTy).Contents (Elt F) → (⟨S128x32, .f32⟩ : BufTy).Contents (Elt F) → (⟨S128x32, .f32⟩ : BufTy).Contents (Elt F)),
   StableHlo.unary main_arg3 main_v4 ((extui 32 · natLt_1_32) : (⟨S100000x32, .i1⟩ : BufTy).Contents (Elt F) → (⟨S100000x32, .i32⟩ : BufTy).Contents (Elt F)),
   StableHlo.unary main_arg4 main_v5 ((extui 32 · natLt_1_32) : (⟨S100000x32, .i1⟩ : BufTy).Contents (Elt F) → (⟨S100000x32, .i32⟩ : BufTy).Contents (Elt F))]

/-- The host operations between the two calls. -/
def ops1 : List (HloOp τ sig (Elt F)) :=
  [StableHlo.unary main_arg0 main_v7 ((extractStridedSlice S1000x1 ![0, 0] · slices_S1000x2_S1000x1_0_0) : (⟨S1000x2, .i32⟩ : BufTy).Contents (Elt F) → (⟨S1000x1, .i32⟩ : BufTy).Contents (Elt F)),
   StableHlo.reshape main_v7 main_v8 (rfl : (.i32 : EltTy) = .i32) shapeCasts_S1000x1_S1000,
   StableHlo.nullary main_c (constantI S_ 32 0#32),
   StableHlo.TRef.unary (.of main_c : StableHlo.TRef sig ⟨S_, .i32⟩) main_call0.v0 id,
   StableHlo.TRef.binary (.of main_v8 : StableHlo.TRef sig ⟨S1000, .i32⟩) main_call0.v0 main_call0.v1 (fun x v => pad S1024 ![0] ![24] ![0] x v pads_S1000_S1024_0240 h_S_),
   StableHlo.unary main_arg0 main_v10 ((extractStridedSlice S1000x1 ![0, 1] · slices_S1000x2_S1000x1_0_1) : (⟨S1000x2, .i32⟩ : BufTy).Contents (Elt F) → (⟨S1000x1, .i32⟩ : BufTy).Contents (Elt F)),
   StableHlo.reshape main_v10 main_v11 (rfl : (.i32 : EltTy) = .i32) shapeCasts_S1000x1_S1000,
   StableHlo.nullary main_c_1 (constantI S_ 32 0#32),
   StableHlo.TRef.unary (.of main_c_1 : StableHlo.TRef sig ⟨S_, .i32⟩) main_call1.v0 id,
   StableHlo.TRef.binary (.of main_v11 : StableHlo.TRef sig ⟨S1000, .i32⟩) main_call1.v0 main_call1.v1 (fun x v => pad S1024 ![0] ![24] ![0] x v pads_S1000_S1024_0240 h_S_),
   StableHlo.reshape main_v6_2 main_v13 (rfl : (.f32 : EltTy) = .f32) shapeCasts_S1000x100_S100000,
   StableHlo.reshape main_v6_3 main_v14 (rfl : (.f32 : EltTy) = .f32) shapeCasts_S100000x32_S3200000]

/-- The host operations after the SparseCore call. -/
def ops2 : List (HloOp τ sig (Elt F)) :=
  [StableHlo.unary main_v15 main_v16 ((extractStridedSlice S1000 ![0] · slices_S1024_S1000_0) : (⟨S1024, .f32⟩ : BufTy).Contents (Elt F) → (⟨S1000, .f32⟩ : BufTy).Contents (Elt F)),
   StableHlo.reshape main_v6_4 main_v17 (rfl : (.f32 : EltTy) = .f32) shapeCasts_S1000x1_S1000,
   StableHlo.reshape main_v6_5 main_v18 (rfl : (.f32 : EltTy) = .f32) shapeCasts_S1000x1_S1000,
   StableHlo.reshape main_v6_0 main_v19 (rfl : (.f32 : EltTy) = .f32) shapeCasts_S1000x100_S100000]

set_option maxRecDepth 16384 in
/-- @main is the three stretches of host operations with the two calls between them. -/
theorem main_eq (d : Dev nD) : main (F := F) d
    = StableHlo.seq ops0 >>= fun _ => SparseCore.liftProg (Prog.op (.customCall (Pipeline.entry 0) ()) .ret) >>= fun _ =>
        StableHlo.seq ops1 >>= fun _ => (K (F := F)).run d 0 >>= fun _ => StableHlo.seq ops2 >>= fun _ => pure ⟨⟩ := rfl

theorem ops0_sub : ∀ op ∈ ops0 (F := F), op.bufs ⊆ StableHlo.tcRefs τ sig :=
  List.forall_iff_forall_mem.mp (by unfold ops0; simp only [List.Forall]; refine ⟨?_, ?_, ?_, ?_, ?_, ?_, ?_, ?_⟩ <;> simp)
theorem ops1_sub : ∀ op ∈ ops1 (F := F), op.bufs ⊆ StableHlo.tcRefs τ sig :=
  List.forall_iff_forall_mem.mp (by unfold ops1; simp only [List.Forall]; refine ⟨?_, ?_, ?_, ?_, ?_, ?_, ?_, ?_, ?_, ?_, ?_, ?_⟩ <;> simp)
theorem ops2_sub : ∀ op ∈ ops2 (F := F), op.bufs ⊆ StableHlo.tcRefs τ sig :=
  List.forall_iff_forall_mem.mp (by unfold ops2; simp only [List.Forall]; refine ⟨?_, ?_, ?_, ?_⟩ <;> simp)
theorem ops0_fresh : ∀ op ∈ ops0 (F := F), op.fresh = ∅ := List.forall_iff_forall_mem.mp (StableHlo.forall_fresh_of_map rfl)
theorem ops1_fresh : ∀ op ∈ ops1 (F := F), op.fresh = ∅ := List.forall_iff_forall_mem.mp (StableHlo.forall_fresh_of_map rfl)
theorem ops2_fresh : ∀ op ∈ ops2 (F := F), op.fresh = ∅ := List.forall_iff_forall_mem.mp (StableHlo.forall_fresh_of_map rfl)

/-- The TensorCore's unscoped references. -/
def ucRefs : Finset (DevRef τ sig) := (StableHlo.tcRefs τ sig).filter fun b => ¬ b.isScoped

/-- The launch's unscoped buffers at a valuation are that set held at it. -/
theorem unscoped_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem within (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The valuations -/

variable (m : (ℓ : Loc nD τ sig) → Buf (Elt F) ℓ)

abbrev rf (b : Ref sig .tc) : DevRef τ sig := Proc.devRef (τ := τ) .tc b

/-- What a valuation says of the references a TensorCore names. -/
abbrev tcv (W : Dev nD → Valuation τ sig (Elt F)) : TcVals F := fun c b => W c (rf b)

abbrev W0 (c : Dev nD) : Valuation τ sig (Elt F) := fun b => m (c, b)
/-- At the TensorCore call. -/
def W1 (c : Dev nD) : Valuation τ sig (Elt F) := StableHlo.after ops0 (W0 m c)
/-- A window's array after the TensorCore call. -/
def outA (c : Dev nD) (w : Fin cfg0.W) : Buf (Elt F) ((cfg0.win w).arr.view.loc (c : Thread nD τ)) := (dat (tcv (W1 m)) c).arrAt w cfg0.N
/-- After the TensorCore call: its six results rewritten. -/
def W2 (c : Dev nD) : Valuation τ sig (Elt F) :=
  Function.update (Function.update (Function.update (Function.update (Function.update (Function.update (W1 m c)
    (rf main_v6_0) (outA m c 6)) (rf main_v6_1) (outA m c 7)) (rf main_v6_2) (outA m c 8)) (rf main_v6_3) (outA m c 9))
    (rf main_v6_4) (outA m c 10)) (rf main_v6_5) (outA m c 11)
/-- At the SparseCore call. -/
def W3 (c : Dev nD) : Valuation τ sig (Elt F) := StableHlo.after ops1 (W2 m c)
/-- After the SparseCore call. -/
def W4 (c : Dev nD) : Valuation τ sig (Elt F) := Function.update (W3 m c) (rf main_v15) (scOut (tcv (W3 m)) c)
/-- At the end. -/
def W5 (c : Dev nD) : Valuation τ sig (Elt F) := StableHlo.after ops2 (W4 m c)

theorem W2_ne (c : Dev nD) (b : Ref sig .tc) (h : b ∉ [main_v6_0, main_v6_1, main_v6_2, main_v6_3, main_v6_4, main_v6_5]) : W2 m c (rf b) = W1 m c (rf b) := by
  simp only [List.mem_cons, List.not_mem_nil, or_false, not_or] at h
  obtain ⟨h0, h1, h2, h3, h4, h5⟩ := h
  unfold W2
  rw [Function.update_of_ne (StableHlo.devRef_ne_of_ne h5), Function.update_of_ne (StableHlo.devRef_ne_of_ne h4), Function.update_of_ne (StableHlo.devRef_ne_of_ne h3),
    Function.update_of_ne (StableHlo.devRef_ne_of_ne h2), Function.update_of_ne (StableHlo.devRef_ne_of_ne h1), Function.update_of_ne (StableHlo.devRef_ne_of_ne h0)]
theorem W2_0 (c : Dev nD) : W2 m c (rf main_v6_0) = outA m c 6 := by
  unfold W2
  rw [Function.update_of_ne (StableHlo.devRef_ne_of_ne (by decide)), Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)), Function.update_self]
theorem W2_1 (c : Dev nD) : W2 m c (rf main_v6_1) = outA m c 7 := by
  unfold W2
  rw [Function.update_of_ne (StableHlo.devRef_ne_of_ne (by decide)), Function.update_of_ne (StableHlo.devRef_ne_of_ne (by decide)), Function.update_of_ne (StableHlo.devRef_ne_of_ne (by decide)),
    Function.update_of_ne (StableHlo.devRef_ne_of_ne (by decide)), Function.update_self]
theorem W2_2 (c : Dev nD) : W2 m c (rf main_v6_2) = outA m c 8 := by
  unfold W2
  rw [Function.update_of_ne (StableHlo.devRef_ne_of_ne (by decide)), Function.update_of_ne (StableHlo.devRef_ne_of_ne (by decide)), Function.update_of_ne (StableHlo.devRef_ne_of_ne (by decide)), Function.update_self]
theorem W2_3 (c : Dev nD) : W2 m c (rf main_v6_3) = outA m c 9 := by
  unfold W2
  rw [Function.update_of_ne (StableHlo.devRef_ne_of_ne (by decide)), Function.update_of_ne (StableHlo.devRef_ne_of_ne (by decide)), Function.update_self]
theorem W2_4 (c : Dev nD) : W2 m c (rf main_v6_4) = outA m c 10 := by
  unfold W2; rw [Function.update_of_ne (StableHlo.devRef_ne_of_ne (by decide)), Function.update_self]
theorem W2_5 (c : Dev nD) : W2 m c (rf main_v6_5) = outA m c 11 := by
  unfold W2; rw [Function.update_self]

/-- An operand of the TensorCore call keeps its contents. -/
theorem arrAt_operand (c : Dev nD) (w : Fin cfg0.W) (hw : (cfg0.win w).isOut = false) (h : Pipeline.arrRef spec0 w ∉ [main_v6_0, main_v6_1, main_v6_2, main_v6_3, main_v6_4, main_v6_5]) :
    (dat (tcv (W1 m)) c).arrAt w cfg0.N = tcv (W2 m) c (Pipeline.arrRef spec0 w) :=
  ((dat (tcv (W1 m)) c).arrAt_in w hw _).trans (W2_ne m c _ h).symm

theorem arrAt_W2 (c : Dev nD) (w : Fin cfg0.W) : (dat (tcv (W1 m)) c).arrAt w cfg0.N = tcv (W2 m) c (Pipeline.arrRef spec0 w) := by
  match w with
  | 0 => exact arrAt_operand m c 0 rfl (by decide)
  | 1 => exact arrAt_operand m c 1 rfl (by decide)
  | 2 => exact arrAt_operand m c 2 rfl (by decide)
  | 3 => exact arrAt_operand m c 3 rfl (by decide)
  | 4 => exact arrAt_operand m c 4 rfl (by decide)
  | 5 => exact arrAt_operand m c 5 rfl (by decide)
  | 6 => exact (W2_0 m c).symm
  | 7 => exact (W2_1 m c).symm
  | 8 => exact (W2_2 m c).symm
  | 9 => exact (W2_3 m c).symm
  | 10 => exact (W2_4 m c).symm
  | 11 => exact (W2_5 m c).symm

theorem W2_rest (c : Dev nD) (b : Ref sig .tc) (h : ∀ w, b ≠ Pipeline.arrRef spec0 w) : tcv (W2 m) c b = tcv (W1 m) c b := by
  refine W2_ne m c b fun hb => ?_
  simp only [List.mem_cons, List.not_mem_nil, or_false] at hb
  rcases hb with e | e | e | e | e | e
  exacts [h 6 e, h 7 e, h 8 e, h 9 e, h 10 e, h 11 e]

/-- The TensorCore call's segment in this program. -/
def reg0 (R : Dev nD → sProp 𝕄) := reg (tcv (W1 m)) (tcv (W2 m)) R (arrAt_W2 m) (W2_rest m)

/-! ## The SparseCore call's five buffers -/

def scRefs : Finset (DevRef τ sig) := {rf main_v9, rf main_v12, rf main_v13, rf main_v14, rf main_v15}

theorem scRefs_sub : scRefs ⊆ ucRefs := by decide

theorem held_sc (c : Dev nD) (W : Valuation τ sig (Elt F)) : (StableHlo.held (c : Thread nD τ) scRefs W : sProp 𝕄)
    = iprop((nLoc c ↦{fullShare} W (rf main_v9)) ∗ (aLoc c ↦{fullShare} W (rf main_v12)) ∗ (tLoc c ↦{fullShare} W (rf main_v13)) ∗ (uLoc c ↦{fullShare} W (rf main_v14))
        ∗ oLoc c ↦{fullShare} W (rf main_v15)) := by
  unfold StableHlo.held scRefs
  rw [SparseCore.bigSep_insert' (by decide), SparseCore.bigSep_insert' (by decide), SparseCore.bigSep_insert' (by decide), SparseCore.bigSep_insert' (by decide), bigSep_singleton]

theorem W4_ne (c : Dev nD) (b : DevRef τ sig) (h : b ≠ rf main_v15) : W4 m c b = W3 m c b := by
  unfold W4; rw [Function.update_of_ne h]
theorem W4_15 (c : Dev nD) : W4 m c (rf main_v15) = scOut (tcv (W3 m)) c := by
  unfold W4; rw [Function.update_self]

/-- The call's payloads over the valuation it finds. -/
abbrev PW := P (F := F) (tcv (W3 m))

theorem st_held (c : Dev nD) : (bigSep Finset.univ fun i : Fin ((K (F := F)).nCore 0) => (PW m).st 0 c i) = StableHlo.held (c : Thread nD τ) scRefs (W3 m c) :=
  (st_eq (tcv (W3 m)) c).trans (held_sc c (W3 m c)).symm
theorem dn_held (c : Dev nD) : (bigSep Finset.univ fun i : Fin ((K (F := F)).nCore 0) => (PW m).dn 0 c i) = StableHlo.held (c : Thread nD τ) scRefs (W4 m c) := by
  rw [held_sc, W4_15, W4_ne m c _ (by decide), W4_ne m c _ (by decide), W4_ne m c _ (by decide), W4_ne m c _ (by decide)]
  exact dn_eq (tcv (W3 m)) c

theorem mem15 : rf main_v15 ∈ scRefs := by decide

theorem held_W4 (c : Dev nD) : iprop(StableHlo.held (c : Thread nD τ) scRefs (W4 m c) ∗ StableHlo.held (c : Thread nD τ) (ucRefs \ scRefs) (W3 m c))
    = (StableHlo.held (c : Thread nD τ) ucRefs (W4 m c) : sProp 𝕄) := by
  rw [StableHlo.held_sub_split _ scRefs_sub (W4 m c)]
  exact congrArg (fun X : sProp 𝕄 => iprop(StableHlo.held (c : Thread nD τ) scRefs (W4 m c) ∗ X))
    (StableHlo.held_congr _ fun b hb => (W4_ne m c b fun h => (Finset.mem_sdiff.mp hb).2 (h ▸ mem15)).symm)

/-! ## @main on the TensorCore -/

instance EP_lands : (EP : Emb (Idealize.ShloMosaic.UR sig nD τ) 𝕄).LandsIn (upEmb : UEmb _ 𝕄) := by
  unfold EP embR; infer_instance

/-- The pipeline's ghost state of one core. -/
def Gh (c : Dev nD) : sProp 𝕄 :=
  iprop(Pipeline.cellsGhost (Pipeline.pin (pcfgs (F := F)) adm) EP 0 c ∗ Pipeline.toksInit (Pipeline.pin (pcfgs (F := F)) adm) EP 0 c)

abbrev FIN (c : Dev nD) : sProp 𝕄 := StableHlo.held (c : Thread nD τ) ucRefs (W5 m c)

variable (ρ : Dev nD → PrngReg)

/-- What the core owes before the SparseCore call. -/
abbrev owed0 (c : Dev nD) : sProp 𝕄 := iprop(∃ W, ⌜(K (F := F)).WBelow (c : Thread nD τ) W 0⌝ ∗ owes (c : Thread nD τ) ((K (F := F)).Otc c 0) W)

theorem reg0_pre (c : Dev nD) : iprop(StableHlo.held (c : Thread nD τ) ucRefs (W1 m c) ∗ emp ∗ owed0 (F := F) c) ⊢ (reg0 m fun _ => iprop(emp)).pre c :=
  BI.sep_mono (Entails.of_eq (unscoped_held c (W1 m c)).symm) (Entails.refl _)
theorem reg0_post (c : Dev nD) : (reg0 m fun _ => iprop(emp)).post c ⊢ iprop(StableHlo.held (c : Thread nD τ) ucRefs (W2 m c) ∗ emp ∗ owed0 (F := F) c) :=
  BI.sep_mono (Entails.of_eq (unscoped_held c (W2 m c))) (Entails.refl _)

/-- The SparseCore call from its five buffers. -/
theorem run_sc (κ : GSem nD τ sig → ℕ) (d : Dev nD) (Φ : PUnit → sProp 𝕄) :
    iprop((K (F := F)).ctx EH (PW m) κ ∗ (K (F := F)).tcSt EH d 0 ∗ StableHlo.held (d : Thread nD τ) scRefs (W3 m d)
        ∗ (((K (F := F)).tcSt EH d 1 ∗ StableHlo.held (d : Thread nD τ) scRefs (W4 m d)) -∗ Φ ⟨⟩))
      ⊢ wp frame (wpE ((K (F := F)).defs (D (F := F))) 𝒱 (d : Thread nD τ) none) Set.univ ((K (F := F)).run d 0) Φ := by
  rw [← st_held, ← dn_held]
  exact (K (F := F)).wp_run (D (F := F)) 𝒱 (EH := EH) (P := PW m) κ d 0

/-- The rest of the core's handshake state before the SparseCore call. -/
def tcRest (d : Dev nD) : sProp 𝕄 :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_eq (d : Dev nD) : (K (F := F)).tcSt EH d 0 = iprop(owed0 (F := F) d ∗ tcRest (F := F) d) := rfl

theorem launch_held (d : Dev nD) : (unscopedBufs d (fun b => m ((SparseCore.T d).loc b)) : sProp 𝕄) = StableHlo.held (d : Thread nD τ) ucRefs (W0 m d) := by
  unfold unscopedBufs StableHlo.held ucRefs StableHlo.tcRefs
  rw [Finset.filter_map, bigSep_map]
  rfl

theorem hmain [∀ e, Nonempty (Elt F e)] (κ : GSem nD τ sig → ℕ) (d : Dev nD) :
    iprop((K (F := F)).ctx EH (PW m) κ ∗ (K (F := F)).tcSt EH d 0 ∗ (K (F := F)).tcRes m ρ d ∗ Gh d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd Gh
  rw [launch_held, main_eq]
  iintro ⟨#Hctx, Hst, ⟨Hb, Hh, Hts, -⟩, Hg, Ht⟩
  iapply (StableHlo.wp_seq 𝒱 none Set.univ d ucRefs _ ops0 (fun op h => within op (ops0_sub op h)) ops0_fresh (W0 m d)) $$ [Hb Hh]
  · isplitl [Hb] <;> iassumption
  iintro ⟨Hb, Hh⟩
  rw [wp_bind]
  iapply ((K (F := F)).wp_liftProg (D (F := F)) 𝒱 (SparseCore.T d) Set.univ none)
  ihave Hst' := (Entails.of_eq (tcSt_eq d)) $$ Hst
  icases Hst' with ⟨HO, Hrest⟩
  ihave #Hlev := (SparseCore.Cfg.ctx_levAts κ) $$ Hctx
  iapply (Pipeline.RegionSeg.wp (pcfgs (F := F)) adm (pdats (tcv (W1 m))) (none : HIx 1) cellOf_inj EP defs₀ 𝒱₀ (K (F := F)).L (K (F := F)).lev
    (reg0 m fun _ => iprop(emp)) d none (fun _ h => nomatch h) .ret _)
  isplitr [Hb Hh HO Hg Ht]
  swap
  · isplitl [Hb]; · iexact Hb
    isplitl [Hh HO]
    · iapply (reg0_pre m d)
      isplitl [Hh]; · iexact Hh
      isplitr; · iempintro
      iexact HO
    isplitr; · iexact Hlev
    isplitl [Hg] <;> iassumption
  iintro ⟨Hb, Hpost⟩
  rw [wp_ret]
  imodintro
  ihave Hp := (reg0_post m d) $$ Hpost
  icases Hp with ⟨Hh, -, HO⟩
  iapply (StableHlo.wp_seq 𝒱 none Set.univ d ucRefs _ ops1 (fun op h => within op (ops1_sub op h)) ops1_fresh (W2 m d)) $$ [Hb Hh]
  · isplitl [Hb] <;> iassumption
  iintro ⟨Hb, Hh⟩
  ihave H := (show StableHlo.held (d : Thread nD τ) ucRefs (StableHlo.after ops1 (W2 m d)) ⊢ iprop(StableHlo.held (d : Thread nD τ) scRefs (W3 m d)
    ∗ StableHlo.held (d : Thread nD τ) (ucRefs \ scRefs) (W3 m d)) from Entails.of_eq (StableHlo.held_sub_split (d : Thread nD τ) scRefs_sub (W3 m d))) $$ Hh
  icases H with ⟨Hs, Hh⟩
  rw [wp_bind]
  iapply (run_sc m κ d _)
  isplitr; · iexact Hctx
  isplitl [HO Hrest]
  · iapply (Entails.of_eq (tcSt_eq d).symm)
    isplitl [HO] <;> iassumption
  isplitl [Hs]; · iexact Hs
  iintro ⟨Hst, Hs⟩
  ihave Hh := (Entails.of_eq (held_W4 m d)) $$ [Hs Hh]
  · isplitl [Hs] <;> iassumption
  iapply (StableHlo.wp_seq 𝒱 none Set.univ d ucRefs _ ops2 (fun op h => within op (ops2_sub op h)) ops2_fresh (W4 m d)) $$ [Hb Hh]
  · isplitl [Hb] <;> iassumption
  iintro ⟨Hb, Hh⟩
  rw [wp_pure]
  imodintro
  isplitl [Hst]; · iexact Hst
  isplitl [Hh]; · iexact Hh
  isplitl [Hb] <;> iassumption

/-- What the end's buffers say of a final memory. -/
def fq (c : Dev nD) (s' : Phys nD τ sig (Elt F)) : Prop := ∀ b ∈ ucRefs, s'.mem.mem (c, b) = W5 m c b

set_option maxRecDepth 16384 in
theorem hfin (c : Dev nD) (s' : Phys nD τ sig (Elt F)) : iprop(FIN m c ∗ SI s') ⊢ (⌜fq m c s'⌝ : sProp 𝕄) := by
  refine (forall_intro fun b => (forall_intro fun hb => ?_).trans pure_forall.2).trans pure_forall.2
  rw [show FIN m c = iprop(StableHlo.held (c : Thread nD τ) {b} (W5 m c) ∗ StableHlo.held (c : Thread nD τ) (ucRefs \ {b}) (W5 m c)) from
    StableHlo.held_sub_split _ (Finset.singleton_subset_iff.mpr hb) _]
  rw [show (StableHlo.held (c : Thread nD τ) {b} (W5 m c) : sProp 𝕄) = iprop((c, b) ↦{fullShare} W5 m c b) from bigSep_singleton ..]
  iintro ⟨⟨Hi, -⟩, HSI⟩
  ihave H := (SI_pointsTo_agree (st := s') (ℓ := (c, b)) (I := Finset.univ) (q := fullShare) (f := W5 m c b)) $$ [HSI Hi]
  · isplitl [HSI] <;> iassumption
  icases H with %h
  ipureintro; exact funext fun i => h i (Finset.mem_univ i)

/-! ## The launch's ghost state and the run -/

def u₀ : UU := (initOf (K (F := F)).hsCells (K (F := F)).hsToks, (initOf (Pipeline.cells cfgs cellOf_inj) (Pipeline.launchToks cfgs cellOf_inj), 1))

theorem hu₀ : (ownU (u₀ (F := F)) : sProp 𝕄)
    ⊢ |={Set.univ}=> iprop(BI.own (EH (initOf (K (F := F)).hsCells (K (F := F)).hsToks)) ∗ (bigSep Finset.univ fun c : Dev nD => Gh (F := F) c)
        ∗ bigSep Finset.univ fun thr : Thread nD τ => bigSep Finset.univ fun q : Fin 1 => (PW m).x q thr) := by
  unfold u₀
  iintro Hu
  ihave H := (ownU_pair (initOf (K (F := F)).hsCells (K (F := F)).hsToks) (initOf (Pipeline.cells cfgs cellOf_inj) (Pipeline.launchToks cfgs cellOf_inj), (1 : Counters))) $$ Hu
  icases H with ⟨HH, HR⟩
  ihave H := (own_pair_emb embR (initOf (Pipeline.cells cfgs cellOf_inj) (Pipeline.launchToks cfgs cellOf_inj)) (1 : Counters)) $$ HR
  icases H with ⟨HP, -⟩
  imod (Pipeline.fund_ghost (Pipeline.pin (pcfgs (F := F)) adm) EP cellOf_inj) $$ HP with ⟨Hg, Ht⟩
  imodintro
  isplitl [HH]; · iexact HH
  isplitl [Hg Ht]
  · iapply (show iprop((bigSep Finset.univ fun c : Dev nD => bigSep Finset.univ fun p => Pipeline.cellsGhost (Pipeline.pin (pcfgs (F := F)) adm) EP p c)
          ∗ (bigSep Finset.univ fun c : Dev nD => bigSep Finset.univ fun p => (Pipeline.toksInit (Pipeline.pin (pcfgs (F := F)) adm) EP p c : sProp 𝕄)))
        ⊢ bigSep Finset.univ fun c : Dev nD => Gh (F := F) c from by
      rw [← bigSep_sep']
      exact bigSep_mono fun c _ => BI.sep_mono (Entails.of_eq (bigSep_univ_of_subsingleton (0 : Fin 1))) (Entails.of_eq (bigSep_univ_of_subsingleton (0 : Fin 1))))
    isplitl [Hg] <;> iassumption
  rw [show (bigSep Finset.univ fun thr : Thread nD τ => bigSep Finset.univ fun q : Fin 1 => (PW m).x q thr) = bigSep Finset.univ fun _ => (BI.emp : sProp 𝕄) from
    bigSep_congr fun _ _ => bigSep_univ_of_subsingleton (0 : Fin 1), BI.bigSep_emp_const]
  iempintro

/-- Every unscoped buffer of every device ends at the last valuation, every counter at zero. -/
def QC : PUnit × MemSt nD τ sig (Elt F) → Prop := fun r => (∀ c : Dev nD, ∀ b ∈ ucRefs, r.2.mem (c, b) = W5 m c b) ∧ r.2.sem = fun _ => 0

/-- The run from any launch memory whose indices, as the SparseCore call finds them, are in range. -/
theorem run_main [∀ e, Nonempty (Elt F e)] (hpre : PreOK (tcv (W3 m))) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PW m) (A := ∅) facts v₀
    (fun q hq => match q with | 0 => nomatch hq)
    (fun q _ => match q with | 0 => tileObl (tcv (W3 m)) facts hpre)
    (fun q _ => match q with | 0 => SparseCore.Cfg.VecSplit.of_plain (vecSplit (tcv (W3 m))))
    m ρ main (fun c => Gh (F := F) c) (FIN m) (u₀ (F := F)) (sep_elim_left.trans (hu₀ m)) (hmain m ρ) (fq m) (hfin m) (QC m) (fun _ h hz => ⟨h, hz⟩)

end Cert.Proof.Main
-- ==== Proof.Frames.lean ====
/- The claims that mention no result: every program ends with its arguments untouched and its counters at zero. -/
module

public import proofs.«01_k».proof.Proof.Main
public import proofs.«01_k».proof.Defs
public import proofs.«01_k».proof.Proof.Gen.Kernel
public import proofs.«01_k».proof.Proof.Gen.Pre_in_range
public import Idealize.ShloMosaic.Lib.Pointwise
public import Idealize.ShloMosaic.Lib.ReduceAll
public import Idealize.ShloMosaic.Lib.Claim
public import proofs.«01_k».proof.Proof.Gen.ReferenceIdeal
public import Idealize.ShloMosaic.Lib.StableHlo.ReadAt

@[expose] public section

noncomputable section

namespace Cert.Proof.Frames

open Cert.KernelIdeal Cert.KernelIdeal.Gen Cert.Proof.Sc Cert.Proof.Tc Cert.Proof.Main
open Idealize.ShloMosaic Idealize.SL.Sem

variable {F : FTy → Type} [FloatOps F]
variable (m : (ℓ : Loc nD τ sig) → Buf (Elt F) ℓ)

/-- What the predicate says of the two index columns. -/
def InRange (a : IVec S1000x2 32) : Prop := ∀ r : Fin 1000, (a (ix2 r 0)).toNat < 100000 ∧ (a (ix2 r 1)).toNat < 32

/-- The arguments, and the buffers no operation of the three stretches writes. -/
def argRefs : List (Ref sig .tc) := [main_arg0, main_arg1, main_arg2, main_arg3, main_arg4, main_arg5, main_arg6, main_arg7, main_arg8]

theorem w1_arg (c : Dev nD) : ∀ b ∈ argRefs, W1 m c (rf b) = m (c, rf b) := by
  simp only [argRefs, List.forall_mem_cons, List.not_mem_nil, false_implies, implies_true, and_true]
  unfold W1 ops0 rf
  refine ⟨?_, ?_, ?_, ?_, ?_, ?_, ?_, ?_, ?_⟩ <;> after_reads_simp

theorem w2_arg (c : Dev nD) : ∀ b ∈ argRefs, W2 m c (rf b) = m (c, rf b) := fun b hb =>
  (W2_ne m c b ((by decide : ∀ b ∈ argRefs, b ∉ [main_v6_0, main_v6_1, main_v6_2, main_v6_3, main_v6_4, main_v6_5]) b hb)).trans (w1_arg m c b hb)

theorem w3_arg (c : Dev nD) : ∀ b ∈ argRefs, W3 m c (rf b) = m (c, rf b) := by
  have h := w2_arg m c
  simp only [argRefs, List.forall_mem_cons, List.not_mem_nil, false_implies, implies_true, and_true] at h ⊢
  obtain ⟨h0, h1, h2, h3, h4, h5, h6, h7, h8⟩ := h
  unfold W3 ops1; unfold rf at *
  refine ⟨?_, ?_, ?_, ?_, ?_, ?_, ?_, ?_, ?_⟩ <;> after_reads_simp <;> assumption

theorem w4_arg (c : Dev nD) (b : Ref sig .tc) (hb : b ∈ argRefs) : W4 m c (rf b) = m (c, rf b) :=
  (W4_ne m c (rf b) (StableHlo.devRef_ne_of_ne ((by decide : ∀ b ∈ argRefs, b ≠ main_v15) b hb))).trans (w3_arg m c b hb)

theorem w5_w4 (c : Dev nD) : ∀ b ∈ argRefs, W5 m c (rf b) = W4 m c (rf b) := by
  simp only [argRefs, List.forall_mem_cons, List.not_mem_nil, false_implies, implies_true, and_true]
  unfold W5
  generalize W4 m c = V
  unfold ops2 rf
  refine ⟨?_, ?_, ?_, ?_, ?_, ?_, ?_, ?_, ?_⟩ <;> after_reads_simp

theorem w5_arg (c : Dev nD) (b : Ref sig .tc) (hb : b ∈ argRefs) : W5 m c (rf b) = m (c, rf b) :=
  (w5_w4 m c b hb).trans (w4_arg m c b hb)

/-- The node numbers the SparseCore reads: the first column of the index array, zeros below it. -/
theorem w3_9 (c : Dev nD) (j : Fin 1024) : W3 m c (rf main_v9) (ix1 j) = if h : j.val < 1000 then m (c, rf main_arg0) (ix2 ⟨j.val, h⟩ 0) else 0#32 := by
  have e := w2_arg m c main_arg0 (by decide)
  unfold W3 ops1; unfold rf at *
  after_reads_at
  rw [e]; rfl

/-- The action numbers likewise. -/
theorem w3_12 (c : Dev nD) (j : Fin 1024) : W3 m c (rf main_v12) (ix1 j) = if h : j.val < 1000 then m (c, rf main_arg0) (ix2 ⟨j.val, h⟩ 1) else 0#32 := by
  have e := w2_arg m c main_arg0 (by decide)
  unfold W3 ops1; unfold rf at *
  after_reads_at
  rw [e]; rfl

theorem preOK (h : ∀ c : Dev nD, InRange (m (c, rf main_arg0))) : PreOK (tcv (W3 m)) := by
  intro d j
  obtain ⟨j, rfl⟩ : ∃ k : Fin 1024, j = ix1 k := ⟨j 0, eq_ix1 j⟩
  refine ⟨?_, ?_⟩
  · show (W3 m d (rf main_v9) (ix1 j)).toNat < _
    rw [w3_9]; split
    · exact (h d _).1
    · decide
  · show (W3 m d (rf main_v12) (ix1 j)).toNat < _
    rw [w3_12]; split
    · exact (h d _).2
    · decide

/-- A run leaves the arguments and the counters as they were. -/
def Kept (s : MemSt nD τ sig (Elt F)) : Prop := (∀ c : Dev nD, ∀ b ∈ argRefs, s.mem (c, rf b) = m (c, rf b)) ∧ s.sem = fun _ => 0

theorem kept_of_run {r : PUnit × MemSt nD τ sig (Elt F)} (h : QC m r) : Kept m r.2 :=
  ⟨fun c b hb => (h.1 c (rf b) ((by decide : ∀ b ∈ argRefs, rf b ∈ ucRefs) b hb)).trans (w5_arg m c b hb), h.2⟩

theorem andi_ofBool (a b : Bool) : IntOp.andi (BitVec.ofBool a) (BitVec.ofBool b) = BitVec.ofBool (a && b) := by cases a <;> cases b <;> rfl
theorem ofBool_eq_one (b : Bool) : BitVec.ofBool b = 1#1 ↔ b = true := by cases b <;> simp

/-- The four comparisons of the predicate at one row. -/
theorem row_key (x y : BitVec 32) (e : IntOp.andi (IntOp.andi (IntOp.andi (IntOp.cmpi .sge x 0#32) (IntOp.cmpi .slt x 100000#32)) (IntOp.cmpi .sge y 0#32)) (IntOp.cmpi .slt y 32#32) = 1#1) :
    x.toNat < 100000 ∧ y.toNat < 32 := by
  simp only [IntOp.cmpi, andi_ofBool, ofBool_eq_one, Bool.and_eq_true, BitVec.sle_eq_decide, BitVec.slt_eq_decide, decide_eq_true_eq, BitVec.toInt_eq_toNat_cond, BitVec.toNat_ofNat,
    Nat.reducePow, Nat.reduceMod] at e
  omega

theorem andi_one {x y : BitVec 1} (h : IntOp.andi x y = 1#1) : x = 1#1 ∧ y = 1#1 := by revert x y; decide

theorem range_of_in_range (a0 : IVec S1000x2 32) (a1 : FVec F S100000x128 .f32) (a2 : IVec S100000 32) (a3 a4 : IVec S100000x32 1) (a5 : IVec S1000 32) (a6 : FVec F S128x1 .f32)
    (a7 : FVec F S128x32 .f32) (a8 : FVec F S128x64 .f32) (h : Cert.Pre_in_range.fn (F := F) a0 a1 a2 a3 a4 a5 a6 a7 a8 = fun _ => 1#1) : InRange a0 := by
  intro r
  have e := congrFun h ix0
  dsimp only [Cert.Pre_in_range.fn, Cert.Pre_in_range.fn_part1] at e
  have e := Host.reduce_andi_all _ _ _ _ _ e (ix1 r)
  pointwise at e
  exact row_key _ _ e

/-! ## The frames -/

theorem frame_KernelIdeal : Cert.quiescent_KernelIdeal := by
  intro m g hpre
  exact (θ_run _ _ _).mono (fun _ h => (kept_of_run m h).elim fun hk hs => ⟨fun c => ⟨hk c main_arg0 (by decide), hk c main_arg1 (by decide), hk c main_arg2 (by decide), hk c main_arg3 (by decide),
    hk c main_arg4 (by decide), hk c main_arg5 (by decide), hk c main_arg6 (by decide), hk c main_arg7 (by decide), hk c main_arg8 (by decide)⟩, hs⟩)
    (run_main (F := Ideal) m g (preOK m fun c => range_of_in_range _ _ _ _ _ _ _ _ _ (hpre c)))

theorem frame_ReferenceIdeal : Cert.quiescent_ReferenceIdeal := by
  intro m g _
  hlo_run
  · exact fun _ => ⟨trivial, trivial, trivial, trivial, trivial, trivial, trivial, trivial, trivial⟩
  · exact Idealize.ShloMosaic.sem_eq_zero_of_no_sems (by decide) r.2

/-! The printed kernel and its idealization are one text. -/

theorem threads_eq [Cert.Kernel.Facts] : Cert.Kernel.threads (F := F) = Cert.KernelIdeal.threads (F := F) := by sl_kernel_rfl
theorem defs_eq [Cert.Kernel.Facts] : Cert.Kernel.defs (F := F) = Cert.KernelIdeal.defs (F := F) := by sl_kernel_rfl

theorem frame_Kernel : Cert.quiescent_Kernel := by
  intro m g hpre
  have h := run_main (F := Bits) m g (preOK m fun c => range_of_in_range _ _ _ _ _ _ _ _ _ (hpre c))
  rw [← threads_eq, ← defs_eq] at h
  exact (θ_run _ _ _).mono (fun _ h => (kept_of_run m h).elim fun hk hs => ⟨fun c => ⟨hk c main_arg0 (by decide), hk c main_arg1 (by decide), hk c main_arg2 (by decide), hk c main_arg3 (by decide),
    hk c main_arg4 (by decide), hk c main_arg5 (by decide), hk c main_arg6 (by decide), hk c main_arg7 (by decide), hk c main_arg8 (by decide)⟩, hs⟩) h

end Cert.Proof.Frames
-- ==== Proof.FramesEq.lean ====
/- The frames under the value claim's precondition. -/
module

public import proofs.«01_k».proof.Proof.Frames
public import proofs.«01_k».proof.Proof.Gen.Pre_equal_graphs

@[expose] public section

noncomputable section

namespace Cert.Proof.Frames

open Cert.KernelIdeal Cert.KernelIdeal.Gen Cert.Proof.Sc Cert.Proof.Tc Cert.Proof.Main
open Idealize.ShloMosaic Idealize.SL.Sem

variable {F : FTy → Type} [FloatOps F]

theorem range_of_equal_graphs (a0 : IVec S1000x2 32) (a1 : FVec F S100000x128 .f32) (a2 : IVec S100000 32) (a3 a4 : IVec S100000x32 1) (a5 : IVec S1000 32) (a6 : FVec F S128x1 .f32)
    (a7 : FVec F S128x32 .f32) (a8 : FVec F S128x64 .f32) (h : Cert.Pre_equal_graphs.fn (F := F) a0 a1 a2 a3 a4 a5 a6 a7 a8 = fun _ => 1#1) : InRange a0 := by
  intro r
  have e := congrFun h ix0
  dsimp only [Cert.Pre_equal_graphs.fn, Cert.Pre_equal_graphs.fn_part1] at e
  have e := Host.reduce_andi_all _ _ _ _ _ (andi_one (andi_one (andi_one e).1).1).1 (ix1 r)
  pointwise at e
  exact row_key _ _ e

theorem frame_KernelIdeal' : Cert.quiescent_KernelIdeal_pre_equal_graphs := by
  intro m g hpre
  exact (θ_run _ _ _).mono (fun _ h => (kept_of_run m h).elim fun hk hs => ⟨fun c => ⟨hk c main_arg0 (by decide), hk c main_arg1 (by decide), hk c main_arg2 (by decide), hk c main_arg3 (by decide),
    hk c main_arg4 (by decide), hk c main_arg5 (by decide), hk c main_arg6 (by decide), hk c main_arg7 (by decide), hk c main_arg8 (by decide)⟩, hs⟩)
    (run_main (F := Ideal) m g (preOK m fun c => range_of_equal_graphs _ _ _ _ _ _ _ _ _ (hpre c)))

theorem frame_ReferenceIdeal' : Cert.quiescent_ReferenceIdeal_pre_equal_graphs := fun m g _ => frame_ReferenceIdeal m g trivial

end Cert.Proof.Frames
-- ==== Proof.Spec.lean ====
/-
  What the five results are: for each row, the logarithms of a row's normalised exponentials, the entropies and the values,
  as functions of the arguments' elements.
-/
module

public import Idealize.ShloMosaic.Lib.Pointwise

@[expose] public section

noncomputable section

namespace Cert.Proof.Spec

open Idealize.ShloMosaic

/-- The value a masked element takes. -/
def neg : EReal := Ideal.ofBits .f32 0xCE6E6B28#32

/-- The greatest of a row, from minus infinity. -/
def mx {n : ℕ} (v : Fin n → EReal) : EReal := Finset.fold max (Ideal.ofBits .f32 0xFF800000#32) v Finset.univ

/-- The logarithm of a row's normalised exponentials. -/
def lsm {n : ℕ} (v : Fin n → EReal) (i : Fin n) : EReal :=
  (v i - mx v) - Ideal.log (∑ j, Ideal.exp (v j - mx v))

/-- One term of an entropy: `p · log p`, and zero where `p` is not positive. -/
def plp (l : EReal) : EReal := if 0 < Ideal.exp l then Ideal.exp l * l else 0

/-- The entropy of a row given by its logarithms. -/
def ent {n : ℕ} (l : Fin n → EReal) : EReal := - ∑ a, plp (l a)

/-- Whether one of the words is set. -/
def anyb {n : ℕ} (v : Fin n → BitVec 1) : BitVec 1 := BitVec.ofBool (decide (∃ a, v a = 1#1))

/-- The logits of a node's actions, those not allowed masked. -/
def alog (h : Fin 128 → EReal) (wa : Fin 128 → Fin 32 → EReal) (b : Fin 32 → BitVec 1) (a : Fin 32) : EReal :=
  Scalar.select (b a) (∑ k, h k * wa k a) neg

/-- The logit of a node, masked where no action is allowed. -/
def nlog (h : Fin 128 → EReal) (w : Fin 128 → EReal) (b p : Fin 32 → BitVec 1) : EReal :=
  Scalar.select (anyb fun a => b a &&& p a) (∑ k, h k * w k) neg

/-- A graph's entropy, from the logarithms of its nodes' and of their actions' probabilities. -/
def entG (ln : Fin 100 → EReal) (la : Fin 100 → Fin 32 → EReal) : EReal :=
  ∑ j, (Ideal.exp (ln j) * ent (la j) - plp (ln j))

/-- A graph's value. -/
def valG (ln : Fin 100 → EReal) (la q : Fin 100 → Fin 32 → EReal) : EReal :=
  ∑ j, Ideal.exp (ln j) * ∑ a, Ideal.exp (la j a) * q j a

/-! ## Over the whole arrays -/

section Whole
variable (x1 : (⟨2, ![100000, 128]⟩ : Shape).Idx → EReal) (x3 x4 : (⟨2, ![100000, 32]⟩ : Shape).Idx → BitVec 1)
  (x6 : (⟨2, ![128, 1]⟩ : Shape).Idx → EReal) (x7 : (⟨2, ![128, 32]⟩ : Shape).Idx → EReal) (x8 : (⟨2, ![128, 64]⟩ : Shape).Idx → EReal)

/-- The logarithms of node `n`'s actions' probabilities; its own logit. -/
def gA (n : Fin 100000) : Fin 32 → EReal := lsm (alog (fun k => x1 (ix2 n k)) (fun k a => x7 (ix2 k a)) fun a => x3 (ix2 n a))
def gL (n : Fin 100000) : EReal := nlog (fun k => x1 (ix2 n k)) (fun k => x6 (ix2 k 0)) (fun a => x3 (ix2 n a)) fun a => x4 (ix2 n a)

/-- Node `j` of graph `g`. -/
def row (g : Fin 1000) (j : Fin 100) : Fin 100000 := ⟨g.val * 100 + j.val, by omega⟩

/-- The logarithms of the probabilities of graph `g`'s nodes. -/
def gN (g : Fin 1000) : Fin 100 → EReal := lsm fun j => gL x1 x3 x4 x6 (row g j)

/-- Half the sum of the two channels of the weights, and the values it gives. -/
def halfW (k : Fin 128) (a : Fin 32) : EReal :=
  Ideal.div (∑ ch : Fin 2, x8 (ix2 k ⟨ch.val * 32 + a.val, by omega⟩)) (Ideal.ofBits .f32 0x40000000#32)
def gQ (n : Fin 100000) (a : Fin 32) : EReal := ∑ k, x1 (ix2 n k) * halfW x8 k a

end Whole

/-- The pattern of minus infinity. -/
theorem ninf : Ideal.ofBits .f32 0xFF800000#32 = (⊥ : EReal) := by
  simp [Ideal.ofBits, Ideal.ieee]

theorem mx_sup {n : ℕ} (v : Fin n → EReal) : mx v = Finset.univ.sup v := by
  unfold mx; rw [ninf]; rfl

/-- A greatest of ones and zeros is positive where one is there. -/
theorem anyb_max {n : ℕ} (v : Fin n → BitVec 1) :
    BitVec.ofBool (decide (0 < mx fun x => Scalar.select (v x) (1 : EReal) 0)) = anyb v := by
  unfold anyb
  congr 1
  rw [mx_sup, decide_eq_decide, Finset.lt_sup_iff]
  refine exists_congr fun a => ?_
  by_cases h : v a = 1#1
  · simp [h, Scalar.select]
  · simp [h, Scalar.select]

/-- A word of one bit widened is not zero where the bit is set. -/
theorem ne_ext (b : BitVec 1) : IntOp.cmpi .ne (b.setWidth 32) 0#32 = b := by
  revert b; decide

end Cert.Proof.Spec
-- ==== Proof.RVal.lean ====
/-
  The reference's values, element by element, where the graphs are the runs of one hundred nodes.
-/
module

public import proofs.«01_k».proof.Proof.Spec
public import proofs.«01_k».proof.Proof.Gen.ReferenceIdeal.Read
public import Idealize.ShloMosaic.Lib.Routing.OpsPair
public import Idealize.ShloMosaic.Lib.Routing.OpsSet
public import Idealize.ShloMosaic.Lib.Routing.OpsOrder

@[expose] public section

set_option maxRecDepth 16384

noncomputable section

namespace Cert.Proof.RVal

open Cert.ReferenceIdeal Cert.ReferenceIdeal.Read
open Cert.Proof.Spec
open Idealize.ShloMosaic

variable (x0 : IVec S1000x2 32) (x1 : FVec Ideal S100000x128 .f32) (x2 : IVec S100000 32) (x3 x4 : IVec S100000x32 1)
  (x6 : FVec Ideal S128x1 .f32) (x7 : FVec Ideal S128x32 .f32) (x8 : FVec Ideal S128x64 .f32)

/-- The row of actions' logits of node `n`. -/
def aR (n : Fin 100000) : Fin 32 → EReal := alog (fun k => x1 (ix2 n k)) (fun k a => x7 (ix2 k a)) fun a => x3 (ix2 n a)

theorem v36_at (n : Fin 100000) (a : Fin 32) : val_main_v36 (F := Ideal) x1 x3 x7 (ix2 n a) = aR x1 x3 x7 n a := by
  pointwise [val_main_v36, val_main_call2_v1, val_main_call2_v0, val_main_cst_7, val_main_v2]
  rfl

theorem c3v0_at (n : Fin 100000) : val_main_call3_v0 (F := Ideal) x1 x3 x7 (ix1 n) = mx (aR x1 x3 x7 n) := by
  have e := v36_at x1 x3 x7 n
  unfold val_main_call3_v0
  generalize val_main_v36 (F := Ideal) x1 x3 x7 = v at e ⊢
  pointwise [val_main_call3_cst]
  unfold mx
  exact congrArg (fun f => Finset.fold max (Ideal.ofBits .f32 0xFF800000#32) f Finset.univ) (funext e)

theorem max_ninf (x : EReal) : max (Ideal.ofBits .f32 0xFF800000#32) x = x := by
  rw [ninf, max_eq_right bot_le]

theorem c3v1_at (n : Fin 100000) : val_main_call3_v1 (F := Ideal) (ix1 n) = Ideal.ofBits .f32 0xFF800000#32 := by
  pointwise [val_main_call3_v1, val_main_call3_cst_0]

theorem c3v2_at (n : Fin 100000) : val_main_call3_v2 (F := Ideal) x1 x3 x7 (ix1 n) = mx (aR x1 x3 x7 n) := by
  rw [val_main_call3_v2_apply, c3v1_at, c3v0_at]
  exact max_ninf _

theorem c3v5_at (n : Fin 100000) (a : Fin 32) : val_main_call3_v5 (F := Ideal) x1 x3 x7 (ix2 n a) = aR x1 x3 x7 n a - mx (aR x1 x3 x7 n) := by
  rw [← c3v2_at, ← v36_at]
  unfold val_main_call3_v5 val_main_call3_v4 val_main_call3_v3
  generalize val_main_v36 (F := Ideal) x1 x3 x7 = v
  generalize val_main_call3_v2 (F := Ideal) x1 x3 x7 = w
  pointwise []

theorem v37_at (n : Fin 100000) (a : Fin 32) : val_main_v37 (F := Ideal) x1 x3 x7 (ix2 n a) = gA x1 x3 x7 n a := by
  have e := c3v5_at x1 x3 x7 n
  unfold val_main_v37 val_main_call3_v10 val_main_call3_v9 val_main_call3_v8 val_main_call3_v7 val_main_call3_v6
  generalize val_main_call3_v5 (F := Ideal) x1 x3 x7 = v at e ⊢
  pointwise [val_main_call3_cst_1]
  simp only [e]
  rfl

theorem v4_at (n : Fin 100000) : val_main_v4 (F := Ideal) x3 x4 (ix1 n) = anyb fun a => x3 (ix2 n a) &&& x4 (ix2 n a) := by
  pointwise [val_main_v4, val_main_v3, val_main_c]
  have h := Routing.fold_ori Finset.univ fun x : Fin 32 => IntOp.andi (x4 (ix2 n x)) (x3 (ix2 n x))
  have e : ∀ x : Fin 32, IntOp.andi (x4 (ix2 n x)) (x3 (ix2 n x)) = x3 (ix2 n x) &&& x4 (ix2 n x) := fun x => BitVec.and_comm _ _
  simp only [e, Finset.mem_univ, true_and] at h
  simp only [e]
  unfold anyb
  rcases BitVec.eq_zero_or_eq_one (Finset.fold IntOp.ori (0#1) (fun x : Fin 32 => x3 (ix2 n x) &&& x4 (ix2 n x)) Finset.univ) with q | q
  · rw [q, decide_eq_false (fun hx => absurd (h.2 hx) (by rw [q]; decide))]; rfl
  · rw [q, decide_eq_true (h.1 q)]; rfl

theorem v5_at (n : Fin 100000) : val_main_v5 (F := Ideal) x1 x3 x4 x6 (ix1 n) = gL x1 x3 x4 x6 n := by
  have e := v4_at x3 x4 n
  unfold val_main_v5
  generalize val_main_v4 (F := Ideal) x3 x4 = v at e ⊢
  pointwise [val_main_v1, val_main_v0, val_main_call0_v1, val_main_call0_v0, val_main_cst]
  rw [e]
  rfl

theorem ofBool_beq {w : ℕ} (x y : BitVec w) : BitVec.ofBool (x == y) = 1#1 ↔ x = y := by
  by_cases h : x = y
  · subst h; simp
  · rw [beq_eq_false_iff_ne.2 h]; simp [h]

/-- The graphs are the runs of one hundred nodes. -/
def Equal : Prop := ∀ n : Fin 100000, x2 (ix1 n) = BitVec.ofNat 32 (n.val / 100)

/-- The nodes whose number is `g`. -/
theorem grp_iff (he : Equal x2) (n : Fin 100000) (g : Fin 1000) : x2 (ix1 n) = BitVec.ofNat 32 g.val ↔ n.val / 100 = g.val := by
  rw [he n]
  constructor
  · intro h
    have := congrArg BitVec.toNat h
    simp only [BitVec.toNat_ofNat] at this
    omega
  · intro h; rw [h]

/-- A greatest over the nodes of one graph. -/
theorem sup_grp (f : Fin 100000 → EReal) (g : Fin 1000) (p : Fin 100000 → BitVec 1) (hp : ∀ n, p n = 1#1 ↔ n.val / 100 = g.val) :
    (mx fun n => Scalar.select (p n) (f n) (Ideal.ofBits .f32 0xFF800000#32)) = mx fun j => f (row g j) := by
  rw [mx_sup, mx_sup, ninf]
  apply le_antisymm
  · refine Finset.sup_le fun n _ => ?_
    by_cases h : p n = 1#1
    · have hn := (hp n).1 h
      have er : n = row g ⟨n.val % 100, by omega⟩ := Fin.ext (by simp only [row]; omega)
      rw [show Scalar.select (p n) (f n) ⊥ = f n by simp [Scalar.select, h]]
      have := Finset.le_sup (f := fun j => f (row g j)) (Finset.mem_univ (⟨n.val % 100, by omega⟩ : Fin 100))
      rwa [← er] at this
    · rw [show Scalar.select (p n) (f n) ⊥ = ⊥ by simp [Scalar.select, h]]
      exact bot_le
  · refine Finset.sup_le fun j _ => ?_
    have hr : p (row g j) = 1#1 := (hp _).2 (by simp only [row]; omega)
    have := Finset.le_sup (f := fun n => Scalar.select (p n) (f n) (⊥ : EReal)) (Finset.mem_univ (row g j))
    simpa [Scalar.select, hr] using this

theorem v14_at (he : Equal x2) (g : Fin 1000) : val_main_v14 (F := Ideal) x1 x2 x3 x4 x6 (ix1 g) = mx fun j => gL x1 x3 x4 x6 (row g j) := by
  rw [← sup_grp (gL x1 x3 x4 x6) g (fun n => IntOp.cmpi .eq (x2 (ix1 n)) (BitVec.ofNat 32 g.val)) fun n => by
    rw [← grp_iff x2 he]; simp only [IntOp.cmpi]; exact ofBool_beq _ _]
  have e := v5_at x1 x3 x4 x6
  unfold val_main_v14 val_main_v13 val_main_call1_v1 val_main_v12
  generalize val_main_v5 (F := Ideal) x1 x3 x4 x6 = v at e ⊢
  pointwise [val_main_v11, val_main_v10, val_main_v9, val_main_v8, val_main_v7, val_main_v6, val_main_cst_1, val_main_cst_0, val_main_call1_v2, val_main_call1_v0]
  simp only [e]
  rfl

end Cert.Proof.RVal
-- ==== Proof.RSeg.lean ====
/-
  The reference's sums and reads over the graphs.
-/
module

public import proofs.«01_k».proof.Proof.RVal

@[expose] public section

set_option maxRecDepth 16384

noncomputable section

namespace Cert.Proof.RVal

open Cert.ReferenceIdeal Cert.ReferenceIdeal.Read
open Cert.Proof.Spec
open Idealize.ShloMosaic

variable (x0 : IVec S1000x2 32) (x1 : FVec Ideal S100000x128 .f32) (x2 : IVec S100000 32) (x3 x4 : IVec S100000x32 1)
  (x6 : FVec Ideal S128x1 .f32) (x7 : FVec Ideal S128x32 .f32) (x8 : FVec Ideal S128x64 .f32)

/-- Where an update of a sum over the graphs lands. -/
theorem lands (idx : IVec S100000x1 32) (n : Fin 100000) (g : Fin 1000) :
    scatter_S1000_S100000x1_S100000_n_0_0_1.resultIdx? (ix1 n) idx = some (ix1 g) ↔ (idx (ix2 n 0)).toInt = (g.val : Int) := by
  have hw : scatter_S1000_S100000x1_S100000_n_0_0_1.window (ix1 n) 0 = 0 := by
    unfold ScatterDims.window
    exact dif_neg (by decide)
  have hs : scatter_S1000_S100000x1_S100000_n_0_0_1.start (ix1 n) idx 0 = (idx (ix2 n 0)).toInt := by
    unfold ScatterDims.start
    rw [dif_pos (by decide)]
    congr 2
    funext b
    match b with
    | ⟨0, _⟩ => rfl
    | ⟨1, _⟩ => rfl
  refine (Routing.resultIdx?_ix1 scatter_S1000_S100000x1_S100000_n_0_0_1 (ix1 n) idx g).trans ?_
  rw [hw, hs]
  simp

/-- A sum over the graphs, at one of them. -/
theorem scat (he : Equal x2) (z : FVec Ideal S1000 .f32) (idx : IVec S100000x1 32) (u : FVec Ideal S100000 .f32) (hz : ∀ i, z i = 0)
    (hi : ∀ n, idx (ix2 n 0) = x2 (ix1 n)) (g : Fin 1000) :
    Host.scatterAdd (F := Ideal) scatter_S1000_S100000x1_S100000_n_0_0_1 z idx u (ix1 g) = ∑ j : Fin 100, u (ix1 (row g j)) := by
  show Ideal.hostScatterAdd _ z idx u (ix1 g) = _
  unfold Ideal.hostScatterAdd
  rw [hz, zero_add]
  have hl : ∀ n : Fin 100000, scatter_S1000_S100000x1_S100000_n_0_0_1.resultIdx? (ix1 n) idx = some (ix1 g) ↔ n.val / 100 = g.val := by
    intro n
    rw [lands, hi, he n, BitVec.toInt_eq_toNat_of_lt (by simp only [BitVec.toNat_ofNat]; omega), BitVec.toNat_ofNat]
    omega
  symm
  refine Finset.sum_bij (fun j _ => ix1 (row g j)) (fun j _ => ?_) (fun j _ k _ h => ?_) (fun i hi => ?_) fun _ _ => rfl
  · rw [Finset.mem_filter]
    exact ⟨Finset.mem_univ _, (hl _).2 (by simp only [row]; omega)⟩
  · have := congrArg Fin.val (congrFun h 0)
    change g.val * 100 + j.val = g.val * 100 + k.val at this
    exact Fin.ext (by omega)
  · obtain ⟨n, rfl⟩ : ∃ n : Fin 100000, i = ix1 n := ⟨i 0, eq_ix1 i⟩
    have hn := (hl n).1 (Finset.mem_filter.1 hi).2
    exact ⟨⟨n.val % 100, by omega⟩, Finset.mem_univ _, congrArg ix1 (Fin.ext (by simp only [row]; omega))⟩

theorem wrap_node (he : Equal x2) (n : Fin 100000) (y : BitVec 32) : Scalar.select (IntOp.cmpi .slt (x2 (ix1 n)) 0#32) y (x2 (ix1 n)) = BitVec.ofNat 32 (n.val / 100) := by
  rw [Routing.wrap_of_lt _ _ (by rw [he n]; simp only [BitVec.toNat_ofNat]; omega), he n]

theorem v20_at (he : Equal x2) (n : Fin 100000) : val_main_v20 (F := Ideal) x2 (ix2 n 0) = BitVec.ofNat 32 (n.val / 100) := by
  rw [← wrap_node x2 he n (IntOp.addi (x2 (ix1 n)) 1000#32)]
  pointwise [val_main_v20, val_main_v19, val_main_v18, val_main_v17, val_main_v16, val_main_v15, val_main_c_2, val_main_c_3]

theorem v33_at (he : Equal x2) (n : Fin 100000) : val_main_v33 (F := Ideal) x2 (ix2 n 0) = BitVec.ofNat 32 (n.val / 100) := by
  rw [← wrap_node x2 he n (IntOp.addi (x2 (ix1 n)) 1000#32)]
  pointwise [val_main_v33, val_main_v32, val_main_v31, val_main_v30, val_main_v29, val_main_v28, val_main_c_5, val_main_c_6]

/-- The graph a node is in. -/
def grp (n : Fin 100000) : Fin 1000 := ⟨n.val / 100, by omega⟩
def lane (n : Fin 100000) : Fin 100 := ⟨n.val % 100, by omega⟩
theorem row_grp (n : Fin 100000) : row (grp n) (lane n) = n := Fin.ext (by simp only [row, grp, lane]; omega)
theorem grp_row (g : Fin 1000) (j : Fin 100) : grp (row g j) = g := Fin.ext (by simp only [row, grp]; omega)
theorem lane_row (g : Fin 1000) (j : Fin 100) : lane (row g j) = j := Fin.ext (by simp only [row, lane]; omega)

theorem take_grp (x : FVec Ideal S1000 .f32) (idx : IVec S100000x1 32) (n : Fin 100000) (h : idx (ix2 n 0) = BitVec.ofNat 32 (n.val / 100)) :
    Host.gather gather_S1000_S100000x1_S100000_n_0_n_n_0_1_1 x idx (ix1 n) = x (ix1 (grp n)) :=
  Routing.gather_take1 gather_S1000_S100000x1_S100000_n_0_n_n_0_1_1 rfl rfl rfl rfl x idx n (grp n) h (by decide)

theorem v22_at (he : Equal x2) (n : Fin 100000) : val_main_v22 (F := Ideal) x1 x2 x3 x4 x6 (ix1 n)
    = gL x1 x3 x4 x6 n - mx fun j => gL x1 x3 x4 x6 (row (grp n) j) := by
  rw [val_main_v22_apply, v5_at]
  unfold val_main_v21
  rw [take_grp _ _ n (v20_at x2 he n), v14_at x1 x2 x3 x4 x6 he]
  rfl

theorem v26_at (he : Equal x2) (g : Fin 1000) : val_main_v26 (F := Ideal) x1 x2 x3 x4 x6 (ix1 g)
    = ∑ j, Ideal.exp (gL x1 x3 x4 x6 (row g j) - mx fun j => gL x1 x3 x4 x6 (row g j)) := by
  unfold val_main_v26
  refine (scat x2 he _ _ _ (fun i => ?_) (fun n => ?_) g).trans (Finset.sum_congr rfl fun j _ => ?_)
  · obtain ⟨i, rfl⟩ : ∃ k : Fin 1000, i = ix1 k := ⟨i 0, eq_ix1 i⟩
    pointwise [val_main_v24, val_main_cst_4]
  · pointwise [val_main_v25]
  · rw [val_main_v23_apply, v22_at x1 x2 x3 x4 x6 he, grp_row]
    rfl

theorem v35_at (he : Equal x2) (n : Fin 100000) : val_main_v35 (F := Ideal) x1 x2 x3 x4 x6 (ix1 n) = gN x1 x3 x4 x6 (grp n) (lane n) := by
  rw [val_main_v35_apply, v22_at x1 x2 x3 x4 x6 he]
  unfold val_main_v34
  rw [take_grp _ _ n (v33_at x2 he n), val_main_v27_apply, v26_at x1 x2 x3 x4 x6 he]
  unfold gN lsm
  beta_reduce
  rw [row_grp]
  rfl

end Cert.Proof.RVal
-- ==== Proof.RRes.lean ====
/-
  The reference's five results.
-/
module

public import proofs.«01_k».proof.Proof.RSeg

@[expose] public section

set_option maxRecDepth 16384

noncomputable section

namespace Cert.Proof.RVal

open Cert.ReferenceIdeal Cert.ReferenceIdeal.Read
open Cert.Proof.Spec
open Idealize.ShloMosaic

variable (x0 : IVec S1000x2 32) (x1 : FVec Ideal S100000x128 .f32) (x2 : IVec S100000 32) (x3 x4 : IVec S100000x32 1)
  (x6 : FVec Ideal S128x1 .f32) (x7 : FVec Ideal S128x32 .f32) (x8 : FVec Ideal S128x64 .f32)

/-! ## The probabilities -/

theorem v61_at (n : Fin 100000) (a : Fin 32) : val_main_v61 (F := Ideal) x1 x3 x7 (ix2 n a) = Ideal.exp (gA x1 x3 x7 n a) := by
  rw [val_main_v61_apply, v37_at]
  rfl

theorem v60_at (he : Equal x2) (n : Fin 100000) : val_main_v60 (F := Ideal) x1 x2 x3 x4 x6 (ix1 n) = Ideal.exp (gN x1 x3 x4 x6 (grp n) (lane n)) := by
  rw [val_main_v60_apply, v35_at x1 x2 x3 x4 x6 he]
  rfl

/-! ## The entropies -/

theorem hneg (x : EReal) : FloatOps.hostNegf (F := Ideal) (φ := .f32) x = (-x : EReal) := rfl

theorem sel_plp (l z w : EReal) (hz : z = 0) (hw : w = 0) :
    Scalar.select (FloatOps.cmpf (F := Ideal) (φ := .f32) .ogt (Ideal.exp l) z) (FloatOps.mulf (F := Ideal) (φ := .f32) (Ideal.exp l) l) w = plp l := by
  subst hz hw
  show Scalar.select (BitVec.ofBool (decide (0 < Ideal.exp l))) (Ideal.exp l * l) 0 = plp l
  unfold plp
  by_cases h : 0 < Ideal.exp l <;> simp only [h, decide_true, decide_false, if_true, if_false] <;> rfl

theorem v65_at (n : Fin 100000) (a : Fin 32) : val_main_v65 (F := Ideal) x1 x3 x7 (ix2 n a) = plp (gA x1 x3 x7 n a) := by
  rw [val_main_v65_apply, val_main_v63_apply, val_main_v64_apply, v61_at, v37_at, val_main_v62_apply, val_main_cst_12_apply, val_main_call5_v1_apply, val_main_call5_v0_apply, val_main_cst_13_apply]
  exact sel_plp _ _ _ Ideal.ofBits_zero_f32 Ideal.ofBits_zero_f32

theorem v66_at (n : Fin 100000) : val_main_v66 (F := Ideal) x1 x3 x7 (ix1 n) = ∑ a, plp (gA x1 x3 x7 n a) := by
  have e := v65_at x1 x3 x7 n
  rw [val_main_v66_apply]
  generalize val_main_v65 (F := Ideal) x1 x3 x7 = v at e ⊢
  rw [show val_main_cst_14 (F := Ideal) (Shape.Idx.first Gen.h_S_) = (0 : EReal) from Ideal.ofBits_zero_f32, zero_add]
  refine Finset.sum_congr rfl fun a _ => ?_
  rw [show idx_main_v66 (ix1 n) a = ix2 n a from funext fun b => match b with | ⟨0, _⟩ => rfl | ⟨1, _⟩ => rfl, e]

theorem v67_at (n : Fin 100000) : val_main_v67 (F := Ideal) x1 x3 x7 (ix1 n) = ent (gA x1 x3 x7 n) := by
  unfold ent
  rw [val_main_v67_apply, v66_at]
  exact hneg _

theorem v72_at (he : Equal x2) (n : Fin 100000) : val_main_v72 (F := Ideal) x1 x2 x3 x4 x6 (ix1 n) = plp (gN x1 x3 x4 x6 (grp n) (lane n)) := by
  rw [val_main_v72_apply, val_main_v70_apply, val_main_v71_apply, v60_at x1 x2 x3 x4 x6 he, v35_at x1 x2 x3 x4 x6 he, val_main_v69_apply, val_main_cst_15_apply, val_main_call6_v1_apply, val_main_call6_v0_apply, val_main_cst_16_apply]
  exact sel_plp _ _ _ Ideal.ofBits_zero_f32 Ideal.ofBits_zero_f32

theorem v73_at (he : Equal x2) (n : Fin 100000) : val_main_v73 (F := Ideal) x1 x2 x3 x4 x6 x7 (ix1 n)
    = Ideal.exp (gN x1 x3 x4 x6 (grp n) (lane n)) * ent (gA x1 x3 x7 n) - plp (gN x1 x3 x4 x6 (grp n) (lane n)) := by
  rw [val_main_v73_apply, v72_at x1 x2 x3 x4 x6 he, val_main_v68_apply, v60_at x1 x2 x3 x4 x6 he, v67_at]
  rfl

theorem v76_at (he : Equal x2) (g : Fin 1000) : val_main_v76 (F := Ideal) x1 x2 x3 x4 x6 x7 (ix1 g)
    = entG (gN x1 x3 x4 x6 g) fun j => gA x1 x3 x7 (row g j) := by
  unfold val_main_v76
  refine (scat x2 he _ _ _ (fun i => ?_) (fun n => ?_) g).trans (Finset.sum_congr rfl fun j _ => ?_)
  · obtain ⟨i, rfl⟩ : ∃ k : Fin 1000, i = ix1 k := ⟨i 0, eq_ix1 i⟩
    pointwise [val_main_v74, val_main_cst_17]
  · pointwise [val_main_v75]
  · rw [v73_at x1 x2 x3 x4 x6 x7 he, grp_row, lane_row]

/-! ## The values -/

/-- No element is infinite. -/
def Finite {s : Shape} (x : FVec Ideal s .f32) : Prop := ∀ i, (x i : EReal) ≠ ⊤ ∧ (x i : EReal) ≠ ⊥

theorem two : Ideal.ofBits .f32 0x40000000#32 = ((2 : ℝ) : EReal) := by
  simp [Ideal.ofBits, Ideal.ieee]
  rw [← EReal.coe_mul]
  norm_num

theorem half (x : ℝ) : Ideal.div (x : EReal) (Ideal.ofBits .f32 0x40000000#32) = ((x / 2 : ℝ) : EReal) := by
  rw [two]
  unfold Ideal.div
  rw [if_neg (by norm_num), ← EReal.coe_inv, ← EReal.coe_mul, div_eq_mul_inv]

/-- Finite sums of products of finite elements: the half taken before or after. -/
theorem half_sum (h : Fin 128 → ℝ) (w : Fin 128 → Fin 2 → ℝ) :
    Ideal.div (∑ ch : Fin 2, ∑ k : Fin 128, (h k : EReal) * (w k ch : EReal)) (Ideal.ofBits .f32 0x40000000#32)
      = ∑ k : Fin 128, (h k : EReal) * Ideal.div (∑ ch : Fin 2, (w k ch : EReal)) (Ideal.ofBits .f32 0x40000000#32) := by
  have c : ∀ {n : ℕ} (f : Fin n → ℝ), ∑ i, ((f i : ℝ) : EReal) = ((∑ i, f i : ℝ) : EReal) := fun f => (map_sum (⟨⟨Real.toEReal, EReal.coe_zero⟩, EReal.coe_add⟩ : ℝ →+ EReal) f Finset.univ).symm
  simp only [← EReal.coe_mul, c, half]
  rw [EReal.coe_eq_coe_iff, Finset.sum_comm, Finset.sum_div]
  refine Finset.sum_congr rfl fun k _ => ?_
  rw [← Finset.mul_sum, mul_div_assoc]

theorem v77_at (n : Fin 100000) (b : Fin 64) : val_main_v77 (F := Ideal) x1 x8 (ix2 n b) = ∑ k : Fin 128, x1 (ix2 n k) * x8 (ix2 k b) := by
  pointwise [val_main_v77]

theorem v79_at (n : Fin 100000) (a : Fin 32) : val_main_v79 (F := Ideal) x1 x8 (ix2 n a) = ∑ ch : Fin 2, ∑ k : Fin 128, x1 (ix2 n k) * x8 (ix2 k ⟨ch.val * 32 + a.val, by omega⟩) := by
  simp only [← v77_at]
  unfold val_main_v79 val_main_v78
  generalize val_main_v77 (F := Ideal) x1 x8 = v
  pointwise [val_main_cst_18]

theorem v81_at (h1 : Finite x1) (h8 : Finite x8) (n : Fin 100000) (a : Fin 32) : val_main_v81 (F := Ideal) x1 x8 (ix2 n a) = gQ x1 x8 n a := by
  rw [val_main_v81_apply, v79_at]
  have e80 : val_main_v80 (F := Ideal) (ix2 n a) = Ideal.ofBits .f32 0x40000000#32 := by
    pointwise [val_main_v80, val_main_cst_19]
  rw [e80]
  unfold gQ halfW
  have e1 : ∀ i, (x1 i : EReal) = ((x1 i : EReal).toReal : EReal) := fun i => (EReal.coe_toReal (h1 i).1 (h1 i).2).symm
  have e8 : ∀ i, (x8 i : EReal) = ((x8 i : EReal).toReal : EReal) := fun i => (EReal.coe_toReal (h8 i).1 (h8 i).2).symm
  have := half_sum (fun k => (x1 (ix2 n k) : EReal).toReal) fun k ch => (x8 (ix2 k ⟨ch.val * 32 + a.val, by omega⟩) : EReal).toReal
  simp only [← e1, ← e8] at this
  exact this

theorem v84_at (h1 : Finite x1) (h8 : Finite x8) (he : Equal x2) (n : Fin 100000) : val_main_v84 (F := Ideal) x1 x2 x3 x4 x6 x7 x8 (ix1 n)
    = Ideal.exp (gN x1 x3 x4 x6 (grp n) (lane n)) * ∑ a, Ideal.exp (gA x1 x3 x7 n a) * gQ x1 x8 n a := by
  rw [val_main_v84_apply, v60_at x1 x2 x3 x4 x6 he, val_main_v83_apply]
  rw [show val_main_cst_20 (F := Ideal) (Shape.Idx.first Gen.h_S_) = (0 : EReal) from Ideal.ofBits_zero_f32, zero_add]
  show Ideal.exp (gN x1 x3 x4 x6 (grp n) (lane n)) * (∑ k : Fin 32, val_main_v82 (F := Ideal) x1 x3 x7 x8 (idx_main_v83 (ix1 n) k) : EReal) = _
  refine congrArg (fun x : EReal => Ideal.exp (gN x1 x3 x4 x6 (grp n) (lane n)) * x) ?_
  refine Finset.sum_congr rfl fun a _ => ?_
  rw [show idx_main_v83 (ix1 n) a = ix2 n a from funext fun b => match b with | ⟨0, _⟩ => rfl | ⟨1, _⟩ => rfl,
    val_main_v82_apply, v61_at, v81_at x1 x8 h1 h8]
  rfl

theorem v87_at (h1 : Finite x1) (h8 : Finite x8) (he : Equal x2) (g : Fin 1000) : val_main_v87 (F := Ideal) x1 x2 x3 x4 x6 x7 x8 (ix1 g)
    = valG (gN x1 x3 x4 x6 g) (fun j => gA x1 x3 x7 (row g j)) fun j => gQ x1 x8 (row g j) := by
  unfold val_main_v87
  refine (scat x2 he _ _ _ (fun i => ?_) (fun n => ?_) g).trans (Finset.sum_congr rfl fun j _ => ?_)
  · obtain ⟨i, rfl⟩ : ∃ k : Fin 1000, i = ix1 k := ⟨i 0, eq_ix1 i⟩
    pointwise [val_main_v85, val_main_cst_21]
  · pointwise [val_main_v86]
  · rw [v84_at x1 x2 x3 x4 x6 x7 x8 h1 h8 he, grp_row, lane_row]

/-! ## The steps taken -/

theorem wrap_word (x y : BitVec 32) {n N : ℕ} (hN : N ≤ 2 ^ 31) (h : x.toNat = n) (hn : n < N) : Scalar.select (IntOp.cmpi .slt x 0#32) y x = BitVec.ofNat 32 n := by
  rw [Routing.wrap_of_lt _ _ (by omega), ← h, BitVec.ofNat_toNat, BitVec.setWidth_eq]

section Steps
variable (j : Fin 1000) (n : Fin 100000) (a : Fin 32) (hn : (x0 (ix2 j 0)).toNat = n.val) (ha : (x0 (ix2 j 1)).toNat = a.val)
include hn

theorem v47_at : val_main_v47 (F := Ideal) x0 (ix2 j 0) = BitVec.ofNat 32 n.val := by
  rw [← wrap_word (x0 (ix2 j 0)) (IntOp.addi (x0 (ix2 j 0)) 100000#32) (by norm_num) hn n.isLt]
  pointwise [val_main_v47, val_main_v46, val_main_v45, val_main_v44, val_main_v43, val_main_v42, val_main_c_8, val_main_c_9, val_main_v39, val_main_v38]

theorem v54_at : val_main_v54 (F := Ideal) x0 (ix2 j 0) = BitVec.ofNat 32 n.val := by
  rw [← wrap_word (x0 (ix2 j 0)) (IntOp.addi (x0 (ix2 j 0)) 100000#32) (by norm_num) hn n.isLt]
  pointwise [val_main_v54, val_main_v53, val_main_v52, val_main_v51, val_main_v50, val_main_v49, val_main_c_10, val_main_c_11, val_main_v39, val_main_v38]

theorem v48_at (he : Equal x2) : val_main_v48 (F := Ideal) x0 x1 x2 x3 x4 x6 (ix1 j) = gN x1 x3 x4 x6 (grp n) (lane n) := by
  rw [← v35_at x1 x2 x3 x4 x6 he]
  exact Routing.gather_take1 gather_S100000_S1000x1_S1000_n_0_n_n_0_1_1 rfl rfl rfl rfl _ _ j n (v47_at x0 j n hn) (by decide)

theorem v55_at (b : Fin 32) : val_main_v55 (F := Ideal) x0 x1 x3 x7 (ix2 j b) = gA x1 x3 x7 n b := by
  rw [← v37_at]
  exact Routing.gather_row gather_S100000x32_S1000x1_S1000x32_1_0_n_n_0_1_132 rfl rfl rfl rfl rfl _ _ j b n (v54_at x0 j n hn) (by decide)

omit hn
include ha

theorem c4v5_at : val_main_call4_v5 (F := Ideal) x0 (ix3 j 0 0) = BitVec.ofNat 32 a.val := by
  rw [← wrap_word (x0 (ix2 j 1)) (IntOp.addi (x0 (ix2 j 1)) 32#32) (by norm_num) ha a.isLt]
  pointwise [val_main_call4_v5, val_main_call4_v4, val_main_call4_v3, val_main_call4_v2, val_main_call4_v1, val_main_call4_v0, val_main_call4_c, val_main_call4_c_0, val_main_v56,
    val_main_v41, val_main_v40]

theorem c4v11_at : val_main_call4_v11 (F := Ideal) x0 (ix3 j 0 0) = 1#1 := by
  have e := c4v5_at x0 j a ha
  unfold val_main_call4_v11 val_main_call4_v10 val_main_call4_v7
  generalize val_main_call4_v5 (F := Ideal) x0 = v at e ⊢
  pointwise [val_main_call4_v9, val_main_call4_v8, val_main_call4_v6, val_main_call4_c_1, val_main_call4_c_2]
  rw [e]
  exact (by decide : ∀ a : Fin 32, IntOp.andi (IntOp.cmpi .sge (BitVec.ofNat 32 a.val) 0#32) (IntOp.cmpi .sle (BitVec.ofNat 32 a.val) 31#32) = 1#1) a

theorem c4v12_at : val_main_call4_v12 (F := Ideal) x0 (ix2 j 0) = 1#1 := by
  have e := c4v11_at x0 j a ha
  unfold val_main_call4_v12
  generalize val_main_call4_v11 (F := Ideal) x0 = v at e ⊢
  pointwise [val_main_call4_c_3]
  rw [Finset.univ_unique, Finset.fold_singleton]
  show IntOp.andi (v (ix3 j 0 0)) 1#1 = 1#1
  rw [e]
  decide

end Steps

/-- One element of each row, by a word per row. -/
theorem take_lane (j : Fin 1000) (a : Fin 32) (v : FVec Ideal S1000x32 .f32) (idx : IVec S1000x1x1 32) (h : idx (ix3 j 0 0) = BitVec.ofNat 32 a.val) :
    Host.gather gather_S1000x32_S1000x1x1_S1000x1_n_1_0_0_1_2_11 v idx (ix2 j 0) = v (ix2 j a) := by
  unfold Host.gather
  refine congrArg v (funext fun x => Fin.ext ?_)
  match x with
  | ⟨0, _⟩ =>
    show GatherDims.start _ (ix2 j 0) idx 0 + GatherDims.batchCoord _ (ix2 j 0) 0 + GatherDims.offCoord _ (ix2 j 0) 0 = j.val
    rw [GatherDims.offCoord_eq_zero _ _ _ (by decide), GatherDims.start_batching _ _ _ _ (by decide)]
    unfold GatherDims.batchCoord
    rw [dif_pos (by decide)]
    simp only [Nat.zero_add, Nat.add_zero]
    rfl
  | ⟨1, _⟩ =>
    show GatherDims.start _ (ix2 j 0) idx 1 + GatherDims.batchCoord _ (ix2 j 0) 1 + GatherDims.offCoord _ (ix2 j 0) 1 = a.val
    rw [GatherDims.offCoord_eq_zero _ _ _ (by decide), GatherDims.batchCoord_eq_zero _ _ _ (by decide)]
    unfold GatherDims.start
    rw [dif_pos (by decide)]
    have hs : gather_S1000x32_S1000x1x1_S1000x1_n_1_0_0_1_2_11.siIdx (ix2 j 0) ⟨List.idxOf 1 gather_S1000x32_S1000x1x1_S1000x1_n_1_0_0_1_2_11.startIndexMap, by decide⟩ = ix3 j 0 0 := by
      funext b
      match b with
      | ⟨0, _⟩ => rfl
      | ⟨1, _⟩ => rfl
      | ⟨2, _⟩ => rfl
    rw [hs, h]
    have := (by decide : ∀ a : Fin 32, min (BitVec.ofNat 32 a.val).toInt.toNat 31 = a.val) a
    exact this

theorem v59_at (he : Equal x2) (j : Fin 1000) (n : Fin 100000) (a : Fin 32) (hn : (x0 (ix2 j 0)).toNat = n.val) (ha : (x0 (ix2 j 1)).toNat = a.val) :
    val_main_v59 (F := Ideal) x0 x1 x2 x3 x4 x6 x7 (ix1 j) = gN x1 x3 x4 x6 (grp n) (lane n) + gA x1 x3 x7 n a := by
  have e : val_main_v57 (F := Ideal) x0 x1 x3 x7 (ix2 j 0) = gA x1 x3 x7 n a := by
    rw [val_main_v57_apply, c4v12_at x0 j a ha]
    refine (show Scalar.select 1#1 _ _ = val_main_call4_v13 (F := Ideal) x0 x1 x3 x7 (ix2 j 0) from rfl).trans ?_
    rw [← v55_at x0 x1 x3 x7 j n hn]
    exact take_lane j a _ _ (c4v5_at x0 j a ha)
  rw [val_main_v59_apply, v48_at x0 x1 x2 x3 x4 x6 j n hn he, ← e]
  unfold val_main_v58
  generalize val_main_v57 (F := Ideal) x0 x1 x3 x7 = v
  pointwise []

end Cert.Proof.RVal
-- ==== Proof.KVal.lean ====
/-
  The blocks one grid point writes, element by element.
-/
module

public import proofs.«01_k».proof.Proof.Spec
public import proofs.«01_k».proof.Proof.TcData

@[expose] public section

set_option maxRecDepth 16384

noncomputable section

namespace Cert.Proof.KVal

open Cert.KernelIdeal Cert.KernelIdeal.Gen
open Cert.Proof.Tc Cert.Proof.Spec
open Idealize.ShloMosaic

variable (h : FVec Ideal S4000x128 .f32) (am pm : IVec S4000x32 32) (w : FVec Ideal S128x1 .f32) (wa wq : FVec Ideal S128x32 .f32)

/-- The mask word a kernel reads from a widened one. -/
def bit (v : IVec S4000x32 32) (r : Fin 4000) (a : Fin 32) : BitVec 1 := IntOp.cmpi .ne (v (ix2 r a)) 0#32

/-- The logits of row `r`'s actions; its own; its node's logarithm. -/
def bA (r : Fin 4000) : Fin 32 → EReal := lsm (alog (fun k => h (ix2 r k)) (fun k a => wa (ix2 k a)) (bit am r))
def bL (r : Fin 4000) : EReal := nlog (fun k => h (ix2 r k)) (fun k => w (ix2 k 0)) (bit am r) (bit pm r)
def at100 (g : Fin 40) (j : Fin 100) : Fin 4000 := ⟨g.val * 100 + j.val, by omega⟩
def bN (g : Fin 40) : Fin 100 → EReal := lsm fun j => bL h am pm w (at100 g j)

theorem lpaB_at (r : Fin 4000) (a : Fin 32) : lpaB (F := Ideal) h am wa (ix2 r a) = bA h am wa r a := by
  pointwise [lpaB, k0_pay7, k0_pay5]
  rfl

theorem paB_at (r : Fin 4000) (a : Fin 32) : paB (F := Ideal) h am wa (ix2 r a) = Ideal.exp (bA h am wa r a) := by
  rw [← lpaB_at]
  rfl

theorem valid_at (r : Fin 4000) : k0_pay6 (F := Ideal) am pm (ix2 r 0) = anyb fun a => bit am r a &&& bit pm r a := by
  rw [← anyb_max]
  pointwise [k0_pay6, k0_pay5]
  rfl

theorem lpnB_at (g : Fin 40) (j : Fin 100) : lpnB (F := Ideal) h am pm w (ix2 g j) = bN h am pm w g j := by
  have e : ∀ r : Fin 4000, Scalar.select (k0_pay6 (F := Ideal) am pm (ix2 r 0)) (k0_pay3 (F := Ideal) h w (ix2 r 0)) (Ideal.ofBits .f32 0xCE6E6B28#32) = bL h am pm w r := by
    intro r
    rw [valid_at]
    pointwise [k0_pay3]
    rfl
  unfold lpnB
  generalize k0_pay6 (F := Ideal) am pm = v19 at e ⊢
  generalize k0_pay3 (F := Ideal) h w = v2 at e ⊢
  pointwise [k0_pay10]
  simp only [e]
  rfl

theorem pnB_at (g : Fin 40) (j : Fin 100) : pnB (F := Ideal) h am pm w (ix2 g j) = Ideal.exp (bN h am pm w g j) := by
  rw [← lpnB_at]
  unfold pnB lpnB k0_pay11
  generalize k0_pay10 (F := Ideal) (k0_pay3 h w) (k0_pay6 (F := Ideal) am pm) = v
  rfl

theorem entB_at (g : Fin 40) : entB (F := Ideal) h am pm w wa (ix2 g 0) = entG (bN h am pm w g) fun j => bA h am wa (at100 g j) := by
  have e10 : ∀ g j, k0_pay10 (F := Ideal) (k0_pay3 h w) (k0_pay6 (F := Ideal) am pm) (ix2 g j) = bN h am pm w g j := lpnB_at h am pm w
  have e11 : ∀ g j, k0_pay11 (F := Ideal) (k0_pay3 h w) (k0_pay6 (F := Ideal) am pm) (ix2 g j) = Ideal.exp (bN h am pm w g j) := pnB_at h am pm w
  have e7 : ∀ r a, k0_pay7 (F := Ideal) h wa am (ix2 r a) = bA h am wa r a := lpaB_at h am wa
  have e8 : ∀ r a, k0_pay8 (F := Ideal) h wa am (ix2 r a) = Ideal.exp (bA h am wa r a) := paB_at h am wa
  unfold entB
  generalize k0_pay6 (F := Ideal) am pm = v19 at e10 e11 ⊢
  generalize k0_pay3 (F := Ideal) h w = v2 at e10 e11 ⊢
  generalize k0_pay7 (F := Ideal) h wa am = v31 at e7 ⊢
  generalize k0_pay8 (F := Ideal) h wa am = v32 at e8 ⊢
  pointwise [k0_pay1, k0_pay12, k0_pay9]
  simp only [e10, e11, e7, e8, zero_sub]
  rfl

theorem valB_at (g : Fin 40) : valB (F := Ideal) h am pm w wa wq (ix2 g 0)
    = valG (bN h am pm w g) (fun j => bA h am wa (at100 g j)) fun j a => ∑ k, h (ix2 (at100 g j) k) * wq (ix2 k a) := by
  have e11 : ∀ g j, k0_pay11 (F := Ideal) (k0_pay3 h w) (k0_pay6 (F := Ideal) am pm) (ix2 g j) = Ideal.exp (bN h am pm w g j) := pnB_at h am pm w
  have e8 : ∀ r a, k0_pay8 (F := Ideal) h wa am (ix2 r a) = Ideal.exp (bA h am wa r a) := paB_at h am wa
  unfold valB
  generalize k0_pay6 (F := Ideal) am pm = v19 at e11 ⊢
  generalize k0_pay3 (F := Ideal) h w = v2 at e11 ⊢
  generalize k0_pay8 (F := Ideal) h wa am = v32 at e8 ⊢
  pointwise [k0_pay2, k0_pay13, k0_pay4]
  simp only [e11, e8]
  rfl

end Cert.Proof.KVal
-- ==== Proof.KArr.lean ====
/-
  The arrays the TensorCore call leaves, as functions of the arguments.
-/
module

public import proofs.«01_k».proof.Proof.KVal
public import proofs.«01_k».proof.Proof.Frames
public import Idealize.ShloMosaic.Lib.Pipeline.ValueKit

@[expose] public section

set_option maxRecDepth 16384

noncomputable section

namespace Cert.Proof.KVal

open Cert.KernelIdeal Cert.KernelIdeal.Gen
open Cert.Proof.Sc Cert.Proof.Tc Cert.Proof.Main Cert.Proof.Spec Cert.Proof.Frames
open Idealize.ShloMosaic

variable (m : (ℓ : Loc nD τ sig) → Buf (Elt Ideal) ℓ) (c : Dev nD)

theorem w1_4 (i : S100000x32.Idx) : W1 m c (rf main_v4) i = (m (c, rf main_arg3) i : BitVec 1).setWidth 32 := by
  unfold W1 ops0; unfold rf at *
  after_reads_at

theorem w1_5 (i : S100000x32.Idx) : W1 m c (rf main_v5) i = (m (c, rf main_arg4) i : BitVec 1).setWidth 32 := by
  unfold W1 ops0; unfold rf at *
  after_reads_at

theorem w1_3 (k : Fin 128) (a : Fin 32) : W1 m c (rf main_v3) (ix2 k a) = halfW (m (c, rf main_arg8)) k a := by
  unfold W1 ops0; unfold rf at *
  after_reads_at
  rfl

/-- Row `r` and group `g` of block `t`. -/
def brow (t : Fin cfg0.N) (r : Fin 4000) : Fin 100000 := ⟨4000 * t.val + r.val, by have := t.isLt; have : cfg0.N = 25 := N_0; omega⟩
def bgrp (t : Fin cfg0.N) (g : Fin 40) : Fin 1000 := ⟨40 * t.val + g.val, by have := t.isLt; have : cfg0.N = 25 := N_0; omega⟩

theorem brow_at (t : Fin cfg0.N) (g : Fin 40) (j : Fin 100) : brow t (at100 g j) = row (bgrp t g) j :=
  Fin.ext (by simp only [brow, at100, row, bgrp]; omega)

/-- Where each window's block lies. -/
theorem wix : ∀ t : Fin grid0.N, win0_0.index t = ![t.val, 0] ∧ win0_1.index t = ![t.val, 0] ∧ win0_2.index t = ![t.val, 0] ∧ win0_3.index t = ![0, 0]
    ∧ win0_4.index t = ![0, 0] ∧ win0_5.index t = ![0, 0] ∧ win0_6.index t = ![t.val, 0] ∧ win0_7.index t = ![t.val, 0] ∧ win0_8.index t = ![t.val, 0]
    ∧ win0_9.index t = ![t.val, 0] ∧ win0_10.index t = ![t.val, 0] ∧ win0_11.index t = ![t.val, 0] := by
  decide +kernel

section Blocks
variable (V : TcVals Ideal) (t : Fin cfg0.N)

theorem x0_at (r : Fin 4000) (k : Fin 128) : x0 V c t (ix2 r k) = V c main_arg1 (ix2 (brow t r) k) := by
  obtain ⟨e, -⟩ := wix t
  unfold x0
  blk_simp
  congr 1
  blk_ext [e, brow]

theorem x1_at (r : Fin 4000) (a : Fin 32) : x1 V c t (ix2 r a) = V c main_v4 (ix2 (brow t r) a) := by
  obtain ⟨-, e, -⟩ := wix t
  unfold x1
  blk_simp
  congr 1
  blk_ext [e, brow]

theorem x2_at (r : Fin 4000) (a : Fin 32) : x2 V c t (ix2 r a) = V c main_v5 (ix2 (brow t r) a) := by
  obtain ⟨-, -, e, -⟩ := wix t
  unfold x2
  blk_simp
  congr 1
  blk_ext [e, brow]

theorem x3_at (k : Fin 128) : x3 V c t (ix2 k 0) = V c main_arg6 (ix2 k 0) := by
  obtain ⟨-, -, -, e, -⟩ := wix t
  unfold x3
  blk_simp
  congr 1
  blk_ext [e]

theorem x4_at (k : Fin 128) (a : Fin 32) : x4 V c t (ix2 k a) = V c main_arg7 (ix2 k a) := by
  obtain ⟨-, -, -, -, e, -⟩ := wix t
  unfold x4
  blk_simp
  congr 1
  blk_ext [e]

theorem x5_at (k : Fin 128) (a : Fin 32) : x5 V c t (ix2 k a) = V c main_v3 (ix2 k a) := by
  obtain ⟨-, -, -, -, -, e, -⟩ := wix t
  unfold x5
  blk_simp
  congr 1
  blk_ext [e]
end Blocks

/-! The arguments the call reads. -/

abbrev A1 : FVec Ideal S100000x128 .f32 := m (c, rf main_arg1)
abbrev A3 : IVec S100000x32 1 := m (c, rf main_arg3)
abbrev A4 : IVec S100000x32 1 := m (c, rf main_arg4)
abbrev A6 : FVec Ideal S128x1 .f32 := m (c, rf main_arg6)
abbrev A7 : FVec Ideal S128x32 .f32 := m (c, rf main_arg7)
abbrev A8 : FVec Ideal S128x64 .f32 := m (c, rf main_arg8)

section Points
variable (t : Fin cfg0.N)

theorem h_at (r : Fin 4000) (k : Fin 128) : x0 (tcv (W1 m)) c t (ix2 r k) = A1 m c (ix2 (brow t r) k) :=
  (x0_at c _ t r k).trans (congrFun (w1_arg m c main_arg1 (by decide)) _)
theorem w_at (k : Fin 128) : x3 (tcv (W1 m)) c t (ix2 k 0) = A6 m c (ix2 k 0) :=
  (x3_at c _ t k).trans (congrFun (w1_arg m c main_arg6 (by decide)) _)
theorem wa_at (k : Fin 128) (a : Fin 32) : x4 (tcv (W1 m)) c t (ix2 k a) = A7 m c (ix2 k a) :=
  (x4_at c _ t k a).trans (congrFun (w1_arg m c main_arg7 (by decide)) _)
theorem wq_at (k : Fin 128) (a : Fin 32) : x5 (tcv (W1 m)) c t (ix2 k a) = halfW (A8 m c) k a :=
  (x5_at c _ t k a).trans (w1_3 m c k a)
theorem am_at (r : Fin 4000) (a : Fin 32) : bit (x1 (tcv (W1 m)) c t) r a = A3 m c (ix2 (brow t r) a) := by
  unfold bit
  rw [x1_at, show tcv (W1 m) c main_v4 (ix2 (brow t r) a) = _ from w1_4 m c _]
  exact ne_ext _
theorem pm_at (r : Fin 4000) (a : Fin 32) : bit (x2 (tcv (W1 m)) c t) r a = A4 m c (ix2 (brow t r) a) := by
  unfold bit
  rw [x2_at, show tcv (W1 m) c main_v5 (ix2 (brow t r) a) = _ from w1_5 m c _]
  exact ne_ext _

theorem bA_at (r : Fin 4000) : bA (x0 (tcv (W1 m)) c t) (x1 (tcv (W1 m)) c t) (x4 (tcv (W1 m)) c t) r = gA (A1 m c) (A3 m c) (A7 m c) (brow t r) := by
  unfold bA gA
  simp only [h_at, wa_at, am_at, show bit (x1 (tcv (W1 m)) c t) r = fun a => A3 m c (ix2 (brow t r) a) from funext fun a => am_at m c t r a]

theorem bL_at (r : Fin 4000) : bL (x0 (tcv (W1 m)) c t) (x1 (tcv (W1 m)) c t) (x2 (tcv (W1 m)) c t) (x3 (tcv (W1 m)) c t) r
    = gL (A1 m c) (A3 m c) (A4 m c) (A6 m c) (brow t r) := by
  unfold bL gL
  simp only [h_at, w_at, show bit (x1 (tcv (W1 m)) c t) r = fun a => A3 m c (ix2 (brow t r) a) from funext fun a => am_at m c t r a,
    show bit (x2 (tcv (W1 m)) c t) r = fun a => A4 m c (ix2 (brow t r) a) from funext fun a => pm_at m c t r a]

theorem bN_at (g : Fin 40) : bN (x0 (tcv (W1 m)) c t) (x1 (tcv (W1 m)) c t) (x2 (tcv (W1 m)) c t) (x3 (tcv (W1 m)) c t) g
    = gN (A1 m c) (A3 m c) (A4 m c) (A6 m c) (bgrp t g) := by
  unfold bN gN
  simp only [bL_at, brow_at]
end Points

/-! The six arrays. -/

theorem out6 : outA m c 6 = fun i : S1000x100.Idx => Ideal.exp (gN (A1 m c) (A3 m c) (A4 m c) (A6 m c) (i 0) (i 1)) := by
  refine (dat (tcv (W1 m)) c).arrAt_eq_of_covers 6 _ (by decide +kernel) fun t hf y => ?_
  obtain ⟨g, j, rfl⟩ : ∃ (g : Fin 40) (j : Fin 100), y = ix2 g j := ⟨y 0, y 1, eq_ix2 y⟩
  obtain ⟨-, -, -, -, -, -, e, -⟩ := wix t
  refine (pnB_at _ _ _ _ g j).trans ?_
  rw [bN_at]
  have h : ((cfg0.win 6).blk t).view.emb (ix2 g j) = ix2 (bgrp t g) j := by
    blk_ext [e, bgrp]
  rw [h]
  rfl

theorem out7 : outA m c 7 = fun i : S100000x32.Idx => Ideal.exp (gA (A1 m c) (A3 m c) (A7 m c) (i 0) (i 1)) := by
  refine (dat (tcv (W1 m)) c).arrAt_eq_of_covers 7 _ (by decide +kernel) fun t hf y => ?_
  obtain ⟨g, j, rfl⟩ : ∃ (g : Fin 4000) (j : Fin 32), y = ix2 g j := ⟨y 0, y 1, eq_ix2 y⟩
  obtain ⟨-, -, -, -, -, -, -, e, -⟩ := wix t
  refine (paB_at _ _ _ g j).trans ?_
  rw [bA_at]
  have h : ((cfg0.win 7).blk t).view.emb (ix2 g j) = ix2 (brow t g) j := by
    blk_ext [e, brow]
  rw [h]
  rfl

theorem out8 : outA m c 8 = fun i : S1000x100.Idx => gN (A1 m c) (A3 m c) (A4 m c) (A6 m c) (i 0) (i 1) := by
  refine (dat (tcv (W1 m)) c).arrAt_eq_of_covers 8 _ (by decide +kernel) fun t hf y => ?_
  obtain ⟨g, j, rfl⟩ : ∃ (g : Fin 40) (j : Fin 100), y = ix2 g j := ⟨y 0, y 1, eq_ix2 y⟩
  obtain ⟨-, -, -, -, -, -, -, -, e, -⟩ := wix t
  refine (lpnB_at _ _ _ _ g j).trans ?_
  rw [bN_at]
  have h : ((cfg0.win 8).blk t).view.emb (ix2 g j) = ix2 (bgrp t g) j := by
    blk_ext [e, bgrp]
  rw [h]
  rfl

theorem out9 : outA m c 9 = fun i : S100000x32.Idx => gA (A1 m c) (A3 m c) (A7 m c) (i 0) (i 1) := by
  refine (dat (tcv (W1 m)) c).arrAt_eq_of_covers 9 _ (by decide +kernel) fun t hf y => ?_
  obtain ⟨g, j, rfl⟩ : ∃ (g : Fin 4000) (j : Fin 32), y = ix2 g j := ⟨y 0, y 1, eq_ix2 y⟩
  obtain ⟨-, -, -, -, -, -, -, -, -, e, -⟩ := wix t
  refine (lpaB_at _ _ _ g j).trans ?_
  rw [bA_at]
  have h : ((cfg0.win 9).blk t).view.emb (ix2 g j) = ix2 (brow t g) j := by
    blk_ext [e, brow]
  rw [h]
  rfl

theorem out10 : outA m c 10 = fun i : S1000x1.Idx => entG (gN (A1 m c) (A3 m c) (A4 m c) (A6 m c) (i 0)) fun j => gA (A1 m c) (A3 m c) (A7 m c) (row (i 0) j) := by
  refine (dat (tcv (W1 m)) c).arrAt_eq_of_covers 10 _ (by decide +kernel) fun t hf y => ?_
  obtain ⟨g, j, rfl⟩ : ∃ (g : Fin 40) (j : Fin 1), y = ix2 g j := ⟨y 0, y 1, eq_ix2 y⟩
  obtain ⟨-, -, -, -, -, -, -, -, -, -, e, -⟩ := wix t
  obtain rfl : j = 0 := Subsingleton.elim _ _
  refine (entB_at _ _ _ _ _ g).trans ?_
  simp only [bN_at, bA_at, brow_at]
  have h : ((cfg0.win 10).blk t).view.emb (ix2 g 0) = ix2 (bgrp t g) 0 := by
    blk_ext [e, bgrp]
  rw [h]
  rfl

theorem out11 : outA m c 11 = fun i : S1000x1.Idx => valG (gN (A1 m c) (A3 m c) (A4 m c) (A6 m c) (i 0)) (fun j => gA (A1 m c) (A3 m c) (A7 m c) (row (i 0) j)) fun j => gQ (A1 m c) (A8 m c) (row (i 0) j) := by
  refine (dat (tcv (W1 m)) c).arrAt_eq_of_covers 11 _ (by decide +kernel) fun t hf y => ?_
  obtain ⟨g, j, rfl⟩ : ∃ (g : Fin 40) (j : Fin 1), y = ix2 g j := ⟨y 0, y 1, eq_ix2 y⟩
  obtain ⟨-, -, -, -, -, -, -, -, -, -, -, e⟩ := wix t
  obtain rfl : j = 0 := Subsingleton.elim _ _
  refine (valB_at _ _ _ _ _ _ g).trans ?_
  simp only [bN_at, bA_at, brow_at, h_at, wq_at]
  have h : ((cfg0.win 11).blk t).view.emb (ix2 g 0) = ix2 (bgrp t g) 0 := by
    blk_ext [e, bgrp]
  rw [h]
  rfl

/-! The five results. -/

theorem r4 : W5 m c (rf main_v6_1) = fun i : S100000x32.Idx => Ideal.exp (gA (A1 m c) (A3 m c) (A7 m c) (i 0) (i 1)) := by
  have e : W4 m c (rf main_v6_1) = outA m c 7 := by
    refine (W4_ne m c (rf main_v6_1) (StableHlo.devRef_ne_of_ne (by decide))).trans (Eq.trans ?_ (W2_1 m c))
    unfold W3
    generalize W2 m c = V
    unfold ops1 rf
    after_reads_simp
  refine Eq.trans ?_ (e.trans (out7 m c))
  unfold W5
  generalize W4 m c = V
  unfold ops2 rf
  after_reads_simp

/-- A buffer of the TensorCore call's that the lines after the SparseCore call read. -/
theorem w4_w2 : ∀ b ∈ [main_v6_0, main_v6_4, main_v6_5], W4 m c (rf b) = W2 m c (rf b) := by
  intro b hb
  refine (W4_ne m c (rf b) (StableHlo.devRef_ne_of_ne ((by decide : ∀ b ∈ [main_v6_0, main_v6_4, main_v6_5], b ≠ main_v15) b hb))).trans ?_
  revert b
  simp only [List.forall_mem_cons, List.not_mem_nil, false_implies, implies_true, and_true]
  unfold W3
  generalize W2 m c = V
  unfold ops1 rf
  refine ⟨?_, ?_, ?_⟩ <;> after_reads_simp

theorem r3 (n : Fin 100000) : W5 m c (rf main_v19) (ix1 n) = Ideal.exp (gN (A1 m c) (A3 m c) (A4 m c) (A6 m c) ⟨n.val / 100, by omega⟩ ⟨n.val % 100, by omega⟩) := by
  have e := (w4_w2 m c main_v6_0 (by decide)).trans ((W2_0 m c).trans (out6 m c))
  unfold W5
  generalize W4 m c = V at e ⊢
  unfold ops2; unfold rf at *
  after_reads_at
  rw [e]
  rfl

theorem r1 (g : Fin 1000) : W5 m c (rf main_v17) (ix1 g) = entG (gN (A1 m c) (A3 m c) (A4 m c) (A6 m c) g) fun j => gA (A1 m c) (A3 m c) (A7 m c) (row g j) := by
  have e := (w4_w2 m c main_v6_4 (by decide)).trans ((W2_4 m c).trans (out10 m c))
  unfold W5
  generalize W4 m c = V at e ⊢
  unfold ops2; unfold rf at *
  after_reads_at
  rw [e]
  rfl

theorem r2 (g : Fin 1000) : W5 m c (rf main_v18) (ix1 g) = valG (gN (A1 m c) (A3 m c) (A4 m c) (A6 m c) g) (fun j => gA (A1 m c) (A3 m c) (A7 m c) (row g j))
    fun j => gQ (A1 m c) (A8 m c) (row g j) := by
  have e := (w4_w2 m c main_v6_5 (by decide)).trans ((W2_5 m c).trans (out11 m c))
  unfold W5
  generalize W4 m c = V at e ⊢
  unfold ops2; unfold rf at *
  after_reads_at
  rw [e]
  rfl

/-- The two tables the SparseCore call reads. -/
theorem w3_13 (n : Fin 100000) : W3 m c (rf main_v13) (ix1 n) = gN (A1 m c) (A3 m c) (A4 m c) (A6 m c) ⟨n.val / 100, by omega⟩ ⟨n.val % 100, by omega⟩ := by
  have e := (W2_2 m c).trans (out8 m c)
  unfold W3
  generalize W2 m c = V at e ⊢
  unfold ops1; unfold rf at *
  after_reads_at
  rw [e]
  rfl

theorem w3_14 (n : Fin 3200000) : W3 m c (rf main_v14) (ix1 n) = gA (A1 m c) (A3 m c) (A7 m c) ⟨n.val / 32, by omega⟩ ⟨n.val % 32, by omega⟩ := by
  have e := (W2_3 m c).trans (out9 m c)
  unfold W3
  generalize W2 m c = V at e ⊢
  unfold ops1; unfold rf at *
  after_reads_at
  rw [e]
  rfl

/-- The node and the action that a step names. -/
theorem r0 (hr : InRange (m (c, rf main_arg0))) (j : Fin 1000) (n : Fin 100000) (a : Fin 32) (hn : (m (c, rf main_arg0) (ix2 j 0) : BitVec 32).toNat = n.val)
    (ha : (m (c, rf main_arg0) (ix2 j 1) : BitVec 32).toNat = a.val) :
    W5 m c (rf main_v16) (ix1 j) = gN (A1 m c) (A3 m c) (A4 m c) (A6 m c) ⟨n.val / 100, by omega⟩ ⟨n.val % 100, by omega⟩ + gA (A1 m c) (A3 m c) (A7 m c) n a := by
  have e := W4_15 m c
  have e' : ∀ x : Fin 1024, x.val = j.val → scOut (tcv (W3 m)) c (ix1 x)
      = gN (A1 m c) (A3 m c) (A4 m c) (A6 m c) ⟨n.val / 100, by omega⟩ ⟨n.val % 100, by omega⟩ + gA (A1 m c) (A3 m c) (A7 m c) n a := by
    intro x hx
    have h9 : (W3 m c (rf main_v9) (ix1 x) : BitVec 32).toNat = n.val := by
      rw [w3_9, dif_pos (by omega), ← hn]; congr 3; exact Fin.ext hx
    have h12 : (W3 m c (rf main_v12) (ix1 x) : BitVec 32).toNat = a.val := by
      rw [w3_12, dif_pos (by omega), ← ha]; congr 3; exact Fin.ext hx
    show FloatOps.addf (F := Ideal) (φ := .f32) (W3 m c (rf main_v13) (nodeIx (W3 m c (rf main_v9) (ix1 x) : BitVec 32).toNat) : EReal)
      (W3 m c (rf main_v14) (flatIx ((W3 m c (rf main_v9) (ix1 x) : BitVec 32).toNat * 32 + (W3 m c (rf main_v12) (ix1 x) : BitVec 32).toNat))) = _
    rw [h9, h12]
    have i1 : nodeIx n.val = ix1 n := by
      rw [eq_ix1 (nodeIx n.val)]; congr 1; exact Fin.ext (Nat.mod_eq_of_lt n.isLt)
    have i2 : flatIx (n.val * 32 + a.val) = ix1 (⟨n.val * 32 + a.val, by omega⟩ : Fin 3200000) := by
      rw [eq_ix1 (flatIx _)]; congr 1; exact Fin.ext (Nat.mod_eq_of_lt (by omega))
    rw [i1, i2, w3_13, w3_14]
    exact congrArg₂ (· + ·) rfl (congrArg₂ (fun x y => gA (A1 m c) (A3 m c) (A7 m c) x y)
      (Fin.ext (by show (n.val * 32 + a.val) / 32 = n.val; omega)) (Fin.ext (by show (n.val * 32 + a.val) % 32 = a.val; omega)))
  unfold W5
  generalize W4 m c = V at e ⊢
  unfold ops2; unfold rf at *
  after_reads_at
  rw [e]
  exact e' _ rfl

end Cert.Proof.KVal
-- ==== Proof.Value.lean ====
/-
  The kernel's five results are the reference's.
-/
module

public import proofs.«01_k».proof.Defs
public import proofs.«01_k».proof.Proof.RRes
public import proofs.«01_k».proof.Proof.KArr
public import proofs.«01_k».proof.Proof.FramesEq
public import proofs.«01_k».proof.Proof.Gen.ReferenceIdeal.Run

@[expose] public section

set_option maxRecDepth 16384

noncomputable section

namespace Cert.Proof.Value

open Cert.Proof.Frames Cert.Proof.Main Cert.Proof.Sc Cert.Proof.Tc Cert.Proof.KVal
open Idealize.ShloMosaic Idealize.SL.Sem

/-! ## What the precondition says -/

section Pre
open Cert.Pre_equal_graphs

variable (a0 : IVec S1000x2 32) (a1 : FVec Ideal S100000x128 .f32) (a2 : IVec S100000 32) (a3 a4 : IVec S100000x32 1) (a5 : IVec S1000 32) (a6 : FVec Ideal S128x1 .f32)
  (a7 : FVec Ideal S128x32 .f32) (a8 : FVec Ideal S128x64 .f32) (h : Cert.Pre_equal_graphs.fn (F := Ideal) a0 a1 a2 a3 a4 a5 a6 a7 a8 = fun _ => 1#1)

/-- The quotient of a node's number by the size of a graph. -/
theorem word_div (n : Fin 100000) : IntOp.divsi ArithUnit.host (BitVec.ofNat 32 n.val) 100#32 = BitVec.ofNat 32 (n.val / 100) := by
  have hx : (BitVec.ofNat 32 n.val).toNat = n.val := by
    rw [BitVec.toNat_ofNat]
    exact Nat.mod_eq_of_lt (by omega)
  have hm : (BitVec.ofNat 32 n.val).msb = false := BitVec.msb_eq_false_iff_two_mul_lt.mpr (by omega)
  have hc : ¬ IntOp.SDivCorner (BitVec.ofNat 32 n.val) 100#32 := by
    rintro (hc | ⟨_, hc⟩) <;> exact absurd hc (by decide)
  refine BitVec.eq_of_toNat_eq ?_
  simp only [IntOp.divsi, if_neg hc, BitVec.sdiv_eq, hm, show (100#32 : BitVec 32).msb = false from by decide, BitVec.udiv_eq, BitVec.toNat_udiv, hx]
  rw [BitVec.toNat_ofNat (n.val / 100), Nat.mod_eq_of_lt (a := n.val / 100) (by omega)]
  rfl

/-- The sign of a node's number is the divisor's, but for the first, which divides exactly. -/
theorem no_borrow (n : Fin 100000) (r : BitVec 32) (hr : n.val = 0 → r = 0#32) :
    IntOp.andi (IntOp.cmpi .ne (if BitVec.ofNat 32 n.val = 0 then (0 : BitVec 32) else if (BitVec.ofNat 32 n.val).msb = true then -1 else 1)
      (if (100#32 : BitVec 32) = 0 then (0 : BitVec 32) else if (100#32 : BitVec 32).msb = true then -1 else 1)) (IntOp.cmpi .ne r 0#32) = 0#1 := by
  by_cases h0 : n.val = 0
  · rw [hr h0, h0]
    decide
  · have hx : (BitVec.ofNat 32 n.val).toNat = n.val := by
      rw [BitVec.toNat_ofNat]
      exact Nat.mod_eq_of_lt (by omega)
    have hm : (BitVec.ofNat 32 n.val).msb = false := BitVec.msb_eq_false_iff_two_mul_lt.mpr (by omega)
    have hz : BitVec.ofNat 32 n.val ≠ 0 := fun e => h0 (hx.symm.trans (congrArg BitVec.toNat e))
    rw [if_neg hz, hm]
    generalize IntOp.cmpi .ne r 0#32 = y
    revert y
    decide

/-- A word equal to the floored quotient, as the predicate spells it. -/
theorem floor_word (n : Fin 100000) (y : BitVec 32)
    (e : IntOp.cmpi .eq y (Scalar.select
      (IntOp.andi (IntOp.cmpi .ne (if BitVec.ofNat 32 n.val = 0 then (0 : BitVec 32) else if (BitVec.ofNat 32 n.val).msb = true then -1 else 1)
        (if (100#32 : BitVec 32) = 0 then (0 : BitVec 32) else if (100#32 : BitVec 32).msb = true then -1 else 1))
        (IntOp.cmpi .ne (IntOp.remsi ArithUnit.host (BitVec.ofNat 32 n.val) 100#32) 0#32))
      (IntOp.subi (IntOp.divsi ArithUnit.host (BitVec.ofNat 32 n.val) 100#32) 1#32)
      (IntOp.divsi ArithUnit.host (BitVec.ofNat 32 n.val) 100#32)) = 1#1) : y = BitVec.ofNat 32 (n.val / 100) := by
  rw [no_borrow n _ (fun h0 => by rw [h0]; decide), word_div] at e
  exact eq_of_beq ((ofBool_eq_one _).1 e)

include h in
theorem equal_of : RVal.Equal a2 := by
  intro n
  have e := congrFun h ix0
  dsimp only [Cert.Pre_equal_graphs.fn, Cert.Pre_equal_graphs.fn_part1] at e
  have e := Host.reduce_andi_all _ _ _ _ _ (andi_one (andi_one (andi_one e).1).1).2 (ix1 n)
  clear h
  pointwise [Cert.Pre_equal_graphs.fn_floor_divide, Cert.Pre_equal_graphs.fn_where] at e
  exact floor_word n _ e

theorem finite_key (x : EReal) (e : BitVec.ofBool (decide (max x (-x) < Ideal.ofBits FTy.f32 2139095040#32)) = 1#1) : x ≠ ⊤ ∧ x ≠ ⊥ := by
  have e := of_decide_eq_true ((ofBool_eq_one _).1 e)
  refine ⟨?_, ?_⟩ <;> rintro rfl
  · exact absurd (lt_of_le_of_lt (le_max_left _ _) e) not_top_lt
  · exact absurd (lt_of_le_of_lt (le_max_right _ _) e) (by rw [EReal.neg_bot]; exact not_top_lt)

include h in
theorem finite1_of : RVal.Finite a1 := by
  intro i
  have e := congrFun h ix0
  dsimp only [Cert.Pre_equal_graphs.fn, Cert.Pre_equal_graphs.fn_part1] at e
  have e := Host.reduce_andi_all _ _ _ _ _ (andi_one (andi_one e).1).2 i
  clear h
  pointwise at e
  exact finite_key _ e

include h in
theorem finite8_of : RVal.Finite a8 := by
  intro i
  have e := congrFun h ix0
  dsimp only [Cert.Pre_equal_graphs.fn, Cert.Pre_equal_graphs.fn_part1] at e
  have e := Host.reduce_andi_all _ _ _ _ _ (andi_one e).2 i
  clear h
  pointwise at e
  exact finite_key _ e

end Pre

/-! ## The five results -/

section Results
open Cert.KernelIdeal
open Cert.ReferenceIdeal.Read (val_main_v59 val_main_v76 val_main_v87 val_main_v60 val_main_v61)

variable (m : (ℓ : Loc nD τ sig) → Buf (Elt Ideal) ℓ) (c : Dev nD) (hp : Cert.Pre_KernelIdeal_equal_graphs m)

abbrev A0 : IVec S1000x2 32 := m (c, rf main_arg0)
abbrev A2 : IVec S100000 32 := m (c, rf main_arg2)

include hp

theorem in_range : InRange (m (c, rf main_arg0)) := range_of_equal_graphs _ _ _ _ _ _ _ _ _ (hp c)
theorem equal : RVal.Equal (A2 m c) := equal_of _ _ _ _ _ _ _ _ _ (hp c)
theorem finite1 : RVal.Finite (A1 m c) := finite1_of _ _ _ _ _ _ _ _ _ (hp c)
theorem finite8 : RVal.Finite (A8 m c) := finite8_of _ _ _ _ _ _ _ _ _ (hp c)

theorem res0 : W5 m c (rf main_v16) = val_main_v59 (F := Ideal) (A0 m c) (A1 m c) (A2 m c) (A3 m c) (A4 m c) (A6 m c) (A7 m c) := by
  refine funext fun i : S1000.Idx => ?_
  obtain ⟨j, rfl⟩ : ∃ k : Fin 1000, i = ix1 k := ⟨i 0, eq_ix1 i⟩
  have hr := in_range m c hp
  exact (r0 m c hr j ⟨_, (hr j).1⟩ ⟨_, (hr j).2⟩ rfl rfl).trans
    (RVal.v59_at (A0 m c) (A1 m c) (A2 m c) (A3 m c) (A4 m c) (A6 m c) (A7 m c) (equal m c hp) j ⟨_, (hr j).1⟩ ⟨_, (hr j).2⟩ rfl rfl).symm

theorem res1 : W5 m c (rf main_v17) = val_main_v76 (F := Ideal) (A1 m c) (A2 m c) (A3 m c) (A4 m c) (A6 m c) (A7 m c) := by
  refine funext fun i : S1000.Idx => ?_
  obtain ⟨g, rfl⟩ : ∃ k : Fin 1000, i = ix1 k := ⟨i 0, eq_ix1 i⟩
  exact (r1 m c g).trans (RVal.v76_at (A1 m c) (A2 m c) (A3 m c) (A4 m c) (A6 m c) (A7 m c) (equal m c hp) g).symm

theorem res2 : W5 m c (rf main_v18) = val_main_v87 (F := Ideal) (A1 m c) (A2 m c) (A3 m c) (A4 m c) (A6 m c) (A7 m c) (A8 m c) := by
  refine funext fun i : S1000.Idx => ?_
  obtain ⟨g, rfl⟩ : ∃ k : Fin 1000, i = ix1 k := ⟨i 0, eq_ix1 i⟩
  exact (r2 m c g).trans (RVal.v87_at (A1 m c) (A2 m c) (A3 m c) (A4 m c) (A6 m c) (A7 m c) (A8 m c) (finite1 m c hp) (finite8 m c hp) (equal m c hp) g).symm

theorem res3 : W5 m c (rf main_v19) = val_main_v60 (F := Ideal) (A1 m c) (A2 m c) (A3 m c) (A4 m c) (A6 m c) := by
  refine funext fun i : S100000.Idx => ?_
  obtain ⟨n, rfl⟩ : ∃ k : Fin 100000, i = ix1 k := ⟨i 0, eq_ix1 i⟩
  exact (r3 m c n).trans (RVal.v60_at (A1 m c) (A2 m c) (A3 m c) (A4 m c) (A6 m c) (equal m c hp) n).symm

omit hp in
theorem res4 : W5 m c (rf main_v6_1) = val_main_v61 (F := Ideal) (A1 m c) (A3 m c) (A7 m c) := by
  rw [r4]
  refine funext fun i : S100000x32.Idx => ?_
  obtain ⟨n, a, rfl⟩ : ∃ (n : Fin 100000) (a : Fin 32), i = ix2 n a := ⟨i 0, i 1, eq_ix2 i⟩
  exact (RVal.v61_at (A1 m c) (A3 m c) (A7 m c) n a).symm

end Results

/-- The two programs end with the same five results. -/
theorem algebraic : Cert.algebraic_KernelIdeal_ReferenceIdeal_pre_equal_graphs := by
  intro m g m' g' hp hag
  refine ⟨fun c => W5 m c (rf Cert.KernelIdeal.main_v16), fun c => W5 m c (rf Cert.KernelIdeal.main_v17), fun c => W5 m c (rf Cert.KernelIdeal.main_v18), fun c => W5 m c (rf Cert.KernelIdeal.main_v19),
    fun c => W5 m c (rf Cert.KernelIdeal.main_v6_1), ?_, ?_⟩
  · refine (θ_run _ _ _).mono (fun r h c => ?_) (run_main (F := Ideal) m g (preOK m fun c => in_range m c hp))
    have hk := (kept_of_run m h).1 c
    exact ⟨h.1 c (rf Cert.KernelIdeal.main_v16) (by decide), h.1 c (rf Cert.KernelIdeal.main_v17) (by decide), h.1 c (rf Cert.KernelIdeal.main_v18) (by decide), h.1 c (rf Cert.KernelIdeal.main_v19) (by decide), h.1 c (rf Cert.KernelIdeal.main_v6_1) (by decide),
      hk Cert.KernelIdeal.main_arg0 (by decide), hk Cert.KernelIdeal.main_arg1 (by decide), hk Cert.KernelIdeal.main_arg2 (by decide), hk Cert.KernelIdeal.main_arg3 (by decide),
      hk Cert.KernelIdeal.main_arg4 (by decide), hk Cert.KernelIdeal.main_arg5 (by decide), hk Cert.KernelIdeal.main_arg6 (by decide), hk Cert.KernelIdeal.main_arg7 (by decide),
      hk Cert.KernelIdeal.main_arg8 (by decide)⟩
  · refine (θ_run _ _ _).mono (fun r h c => ?_) (Cert.ReferenceIdeal.Value.run (F := Ideal) m' g')
    obtain ⟨q0, q1, q2, q3, q4, hk⟩ := h c
    obtain ⟨e0, e1, e2, e3, e4, -, e6, e7, e8⟩ := hag c
    refine ⟨q0.trans ((Cert.ReferenceIdeal.Read.val_main_v59_eq m' c).trans ?_), q1.trans ((Cert.ReferenceIdeal.Read.val_main_v76_eq m' c).trans ?_),
      q2.trans ((Cert.ReferenceIdeal.Read.val_main_v87_eq m' c).trans ?_), q3.trans ((Cert.ReferenceIdeal.Read.val_main_v60_eq m' c).trans ?_),
      q4.trans ((Cert.ReferenceIdeal.Read.val_main_v61_eq _ _ _).trans ?_), hk⟩
    · rw [e0, e1, e2, e3, e4, e6, e7]
      exact (res0 m c hp).symm
    · rw [e1, e2, e3, e4, e6, e7]
      exact (res1 m c hp).symm
    · rw [e1, e2, e3, e4, e6, e7, e8]
      exact (res2 m c hp).symm
    · rw [e1, e2, e3, e4, e6]
      exact (res3 m c hp).symm
    · rw [e1, e3, e7]
      exact (res4 m c).symm

end Cert.Proof.Value
-- ==== Proof.lean ====
/- Every claim of the certificate, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.Pre_in_range
public import proofs.«01_k».proof.Proof.Gen.ReferenceIdeal.Run
public import proofs.«01_k».proof.Proof.Gen.ReferenceIdeal.Read
public import proofs.«01_k».proof.Proof.Gen.Pre_equal_graphs
public import proofs.«01_k».proof.Proof.FramesEq
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts, Cert.Pre_equal_graphs.Gen.facts, Frames.frame_Kernel, Frames.frame_KernelIdeal, Frames.frame_KernelIdeal', Frames.frame_ReferenceIdeal, Frames.frame_ReferenceIdeal', trivial, Value.algebraic⟩

end Cert.Proof

end
